-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "k_lum" .bf16 0x46FE#16 ((68197291131 / 2097152 : ℝ) : EReal)
  ∧ IdealRules.named_const.Statement Cert.KernelIdeal.κ "k_cs" .bf16 0x426A#16 ((7670661 / 131072 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x3x512x512 : Shape := ⟨4, ![16, 3, 512, 512]⟩
abbrev S512x512 : Shape := ⟨2, ![512, 512]⟩
abbrev S_ : Shape := ⟨0, ![]⟩
abbrev S16x1x128 : Shape := ⟨3, ![16, 1, 128]⟩
abbrev S1x3x512x512 : Shape := ⟨4, ![1, 3, 512, 512]⟩
abbrev S1x1x128 : Shape := ⟨3, ![1, 1, 128]⟩
abbrev S512x2048 : Shape := ⟨2, ![512, 2048]⟩
abbrev S1x1x512x512 : Shape := ⟨4, ![1, 1, 512, 512]⟩
abbrev S2048x512 : Shape := ⟨2, ![2048, 512]⟩
abbrev S1x512x512 : Shape := ⟨3, ![1, 512, 512]⟩
abbrev S1 : Shape := ⟨1, ![1]⟩
abbrev S1x1x1 : Shape := ⟨3, ![1, 1, 1]⟩
abbrev S16x1x1 : Shape := ⟨3, ![16, 1, 1]⟩
abbrev S16 : Shape := ⟨1, ![16]⟩

abbrev nBuf : Space → Nat
  | .hbm => 151
  | .vmem => 8
  | .smem => 0
  | _ => 0

abbrev hbmTy0_0 (i : Nat) : BufTy := match i % 128 with
  | 0 => ⟨S16x3x512x512, .f32⟩
  | 1 => ⟨S16x3x512x512, .f32⟩
  | 2 => ⟨S512x512, .i32⟩
  | 3 => ⟨S512x512, .i32⟩
  | 4 => ⟨S_, .f32⟩
  | 5 => ⟨S512x512, .f32⟩
  | 6 => ⟨S_, .i32⟩
  | 7 => ⟨S512x512, .i32⟩
  | 8 => ⟨S512x512, .i32⟩
  | 9 => ⟨S512x512, .i1⟩
  | 10 => ⟨S_, .i32⟩
  | 11 => ⟨S512x512, .i32⟩
  | 12 => ⟨S512x512, .i1⟩
  | 13 => ⟨S512x512, .i1⟩
  | 14 => ⟨S_, .f32⟩
  | 15 => ⟨S_, .f32⟩
  | 16 => ⟨S512x512, .f32⟩
  | 17 => ⟨S512x512, .f32⟩
  | 18 => ⟨S_, .i32⟩
  | 19 => ⟨S512x512, .i32⟩
  | 20 => ⟨S512x512, .i32⟩
  | 21 => ⟨S512x512, .i1⟩
  | 22 => ⟨S_, .i32⟩
  | 23 => ⟨S512x512, .i32⟩
  | 24 => ⟨S512x512, .i1⟩
  | 25 => ⟨S512x512, .i1⟩
  | 26 => ⟨S_, .f32⟩
  | 27 => ⟨S_, .f32⟩
  | 28 => ⟨S512x512, .f32⟩
  | 29 => ⟨S512x512, .f32⟩
  | 30 => ⟨S_, .i32⟩
  | 31 => ⟨S512x512, .i32⟩
  | 32 => ⟨S512x512, .i32⟩
  | 33 => ⟨S512x512, .i1⟩
  | 34 => ⟨S_, .i32⟩
  | 35 => ⟨S512x512, .i32⟩
  | 36 => ⟨S512x512, .i1⟩
  | 37 => ⟨S512x512, .i1⟩
  | 38 => ⟨S_, .f32⟩
  | 39 => ⟨S_, .f32⟩
  | 40 => ⟨S512x512, .f32⟩
  | 41 => ⟨S512x512, .f32⟩
  | 42 => ⟨S_, .i32⟩
  | 43 => ⟨S512x512, .i32⟩
  | 44 => ⟨S512x512, .i32⟩
  | 45 => ⟨S512x512, .i1⟩
  | 46 => ⟨S_, .i32⟩
  | 47 => ⟨S512x512, .i32⟩
  | 48 => ⟨S512x512, .i1⟩
  | 49 => ⟨S512x512, .i1⟩
  | 50 => ⟨S_, .f32⟩
  | 51 => ⟨S_, .f32⟩
  | 52 => ⟨S512x512, .f32⟩
  | 53 => ⟨S512x512, .f32⟩
  | 54 => ⟨S_, .i32⟩
  | 55 => ⟨S512x512, .i32⟩
  | 56 => ⟨S512x512, .i32⟩
  | 57 => ⟨S512x512, .i1⟩
  | 58 => ⟨S_, .i32⟩
  | 59 => ⟨S512x512, .i32⟩
  | 60 => ⟨S512x512, .i1⟩
  | 61 => ⟨S512x512, .i1⟩
  | 62 => ⟨S_, .f32⟩
  | 63 => ⟨S_, .f32⟩
  | 64 => ⟨S512x512, .f32⟩
  | 65 => ⟨S512x512, .f32⟩
  | 66 => ⟨S_, .i32⟩
  | 67 => ⟨S512x512, .i32⟩
  | 68 => ⟨S512x512, .i32⟩
  | 69 => ⟨S512x512, .i1⟩
  | 70 => ⟨S_, .i32⟩
  | 71 => ⟨S512x512, .i32⟩
  | 72 => ⟨S512x512, .i1⟩
  | 73 => ⟨S512x512, .i1⟩
  | 74 => ⟨S_, .f32⟩
  | 75 => ⟨S_, .f32⟩
  | 76 => ⟨S512x512, .f32⟩
  | 77 => ⟨S512x512, .f32⟩
  | 78 => ⟨S_, .i32⟩
  | 79 => ⟨S512x512, .i32⟩
  | 80 => ⟨S512x512, .i32⟩
  | 81 => ⟨S512x512, .i1⟩
  | 82 => ⟨S_, .i32⟩
  | 83 => ⟨S512x512, .i32⟩
  | 84 => ⟨S512x512, .i1⟩
  | 85 => ⟨S512x512, .i1⟩
  | 86 => ⟨S_, .f32⟩
  | 87 => ⟨S_, .f32⟩
  | 88 => ⟨S512x512, .f32⟩
  | 89 => ⟨S512x512, .f32⟩
  | 90 => ⟨S_, .i32⟩
  | 91 => ⟨S512x512, .i32⟩
  | 92 => ⟨S512x512, .i32⟩
  | 93 => ⟨S512x512, .i1⟩
  | 94 => ⟨S_, .i32⟩
  | 95 => ⟨S512x512, .i32⟩
  | 96 => ⟨S512x512, .i1⟩
  | 97 => ⟨S512x512, .i1⟩
  | 98 => ⟨S_, .f32⟩
  | 99 => ⟨S_, .f32⟩
  | 100 => ⟨S512x512, .f32⟩
  | 101 => ⟨S512x512, .f32⟩
  | 102 => ⟨S_, .i32⟩
  | 103 => ⟨S512x512, .i32⟩
  | 104 => ⟨S512x512, .i32⟩
  | 105 => ⟨S512x512, .i1⟩
  | 106 => ⟨S_, .i32⟩
  | 107 => ⟨S512x512, .i32⟩
  | 108 => ⟨S512x512, .i1⟩
  | 109 => ⟨S512x512, .i1⟩
  | 110 => ⟨S_, .f32⟩
  | 111 => ⟨S_, .f32⟩
  | 112 => ⟨S512x512, .f32⟩
  | 113 => ⟨S512x512, .f32⟩
  | 114 => ⟨S_, .i32⟩
  | 115 => ⟨S512x512, .i32⟩
  | 116 => ⟨S512x512, .i32⟩
  | 117 => ⟨S512x512, .i1⟩
  | 118 => ⟨S_, .i32⟩
  | 119 => ⟨S512x512, .i32⟩
  | 120 => ⟨S512x512, .i1⟩
  | 121 => ⟨S512x512, .i1⟩
  | 122 => ⟨S_, .f32⟩
  | 123 => ⟨S_, .f32⟩
  | 124 => ⟨S512x512, .f32⟩
  | 125 => ⟨S512x512, .f32⟩
  | 126 => ⟨S_, .i32⟩
  | 127 => ⟨S512x512, .i32⟩
  | _ => ⟨S16x3x512x512, .f32⟩

abbrev hbmTy0_1 (i : Nat) : BufTy := match i % 128 with
  | 0 => ⟨S512x512, .i32⟩
  | 1 => ⟨S512x512, .i1⟩
  | 2 => ⟨S_, .i32⟩
  | 3 => ⟨S512x512, .i32⟩
  | 4 => ⟨S512x512, .i1⟩
  | 5 => ⟨S512x512, .i1⟩
  | 6 => ⟨S_, .f32⟩
  | 7 => ⟨S_, .f32⟩
  | 8 => ⟨S512x512, .f32⟩
  | 9 => ⟨S512x512, .f32⟩
  | 10 => ⟨S_, .f32⟩
  | 11 => ⟨S512x512, .f32⟩
  | 12 => ⟨S512x512, .f32⟩
  | 13 => ⟨S512x512, .fp8e4m3⟩
  | 14 => ⟨S16x1x128, .f32⟩
  | 15 => ⟨S16x1x1, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | _ => ⟨S16x3x512x512, .f32⟩

abbrev hbmTy (i : Nat) : BufTy := match i / 128 with
  | 0 => hbmTy0_0 i
  | 1 => hbmTy0_1 i
  | _ => ⟨S16x3x512x512, .f32⟩

abbrev bufTy : (tb : Table) → Fin (tcTables nBuf tb) → BufTy
  | .hbm, ⟨i, _⟩ => hbmTy i
  | .local _ .vmem, ⟨0, _⟩ => ⟨S1x3x512x512, .f32⟩
  | .local _ .vmem, ⟨1, _⟩ => ⟨S1x3x512x512, .f32⟩
  | .local _ .vmem, ⟨2, _⟩ => ⟨S1x3x512x512, .f32⟩
  | .local _ .vmem, ⟨3, _⟩ => ⟨S1x3x512x512, .f32⟩
  | .local _ .vmem, ⟨4, _⟩ => ⟨S512x512, .fp8e4m3⟩
  | .local _ .vmem, ⟨5, _⟩ => ⟨S1x1x128, .f32⟩
  | .local _ .vmem, ⟨6, _⟩ => ⟨S1x1x128, .f32⟩
  | .local _ .vmem, ⟨7, _⟩ => ⟨S512x2048, .fp8e4m3⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_call2_v0 : Ref sig .tc := ⟨.hbm, 39, rfl⟩
abbrev main_call2_v1 : Ref sig .tc := ⟨.hbm, 40, rfl⟩
abbrev main_v23 : Ref sig .tc := ⟨.hbm, 41, rfl⟩
abbrev main_c_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_9 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_10 : Ref sig .tc := ⟨.hbm, 50, rfl⟩
abbrev main_call3_v0 : Ref sig .tc := ⟨.hbm, 51, rfl⟩
abbrev main_call3_v1 : Ref sig .tc := ⟨.hbm, 52, rfl⟩
abbrev main_v30 : Ref sig .tc := ⟨.hbm, 53, rfl⟩
abbrev main_c_11 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_12 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_13 : Ref sig .tc := ⟨.hbm, 62, rfl⟩
abbrev main_call4_v0 : Ref sig .tc := ⟨.hbm, 63, rfl⟩
abbrev main_call4_v1 : Ref sig .tc := ⟨.hbm, 64, rfl⟩
abbrev main_v37 : Ref sig .tc := ⟨.hbm, 65, rfl⟩
abbrev main_c_14 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_15 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_16 : Ref sig .tc := ⟨.hbm, 74, rfl⟩
abbrev main_call5_v0 : Ref sig .tc := ⟨.hbm, 75, rfl⟩
abbrev main_call5_v1 : Ref sig .tc := ⟨.hbm, 76, rfl⟩
abbrev main_v44 : Ref sig .tc := ⟨.hbm, 77, rfl⟩
abbrev main_c_17 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_c_18 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_19 : Ref sig .tc := ⟨.hbm, 86, rfl⟩
abbrev main_call6_v0 : Ref sig .tc := ⟨.hbm, 87, rfl⟩
abbrev main_call6_v1 : Ref sig .tc := ⟨.hbm, 88, rfl⟩
abbrev main_v51 : Ref sig .tc := ⟨.hbm, 89, rfl⟩
abbrev main_c_20 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_c_21 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_22 : Ref sig .tc := ⟨.hbm, 98, rfl⟩
abbrev main_call7_v0 : Ref sig .tc := ⟨.hbm, 99, rfl⟩
abbrev main_call7_v1 : Ref sig .tc := ⟨.hbm, 100, rfl⟩
abbrev main_v58 : Ref sig .tc := ⟨.hbm, 101, rfl⟩
abbrev main_c_23 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_c_24 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_cst_25 : Ref sig .tc := ⟨.hbm, 110, rfl⟩
abbrev main_call8_v0 : Ref sig .tc := ⟨.hbm, 111, rfl⟩
abbrev main_call8_v1 : Ref sig .tc := ⟨.hbm, 112, rfl⟩
abbrev main_v65 : Ref sig .tc := ⟨.hbm, 113, rfl⟩
abbrev main_c_26 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_c_27 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_cst_28 : Ref sig .tc := ⟨.hbm, 122, rfl⟩
abbrev main_call9_v0 : Ref sig .tc := ⟨.hbm, 123, rfl⟩
abbrev main_call9_v1 : Ref sig .tc := ⟨.hbm, 124, rfl⟩
abbrev main_v72 : Ref sig .tc := ⟨.hbm, 125, rfl⟩
abbrev main_c_29 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_c_30 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_cst_31 : Ref sig .tc := ⟨.hbm, 134, rfl⟩
abbrev main_call10_v0 : Ref sig .tc := ⟨.hbm, 135, rfl⟩
abbrev main_call10_v1 : Ref sig .tc := ⟨.hbm, 136, rfl⟩
abbrev main_v79 : Ref sig .tc := ⟨.hbm, 137, rfl⟩
abbrev main_cst_32 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_cst_33 : Ref sig .tc := ⟨.hbm, 145, rfl⟩
abbrev main_v86 : Ref sig .tc := ⟨.hbm, 146, rfl⟩
abbrev main_v87 : Ref sig .tc := ⟨.hbm, 147, rfl⟩
abbrev main_cst_34 : Ref sig .tc := ⟨.hbm, 148, rfl⟩
abbrev main_v88 : Ref sig .tc := ⟨.hbm, 149, rfl⟩
abbrev main_v89 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "k_cs" => some ((7670661 / 131072 : ℝ) : EReal)
  | "k_lum" => some ((68197291131 / 2097152 : ℝ) : EReal)
  | _ => none
-- ==== ReferenceIdeal.lean ====
abbrev S16x3x512x512 : Shape := ⟨4, ![16, 3, 512, 512]⟩
abbrev S11 : Shape := ⟨1, ![11]⟩
abbrev S_ : Shape := ⟨0, ![]⟩
abbrev S11x1 : Shape := ⟨2, ![11, 1]⟩
abbrev S1x11 : Shape := ⟨2, ![1, 11]⟩
abbrev S11x11 : Shape := ⟨2, ![11, 11]⟩
abbrev S502 : Shape := ⟨1, ![502]⟩
abbrev S502x1 : Shape := ⟨2, ![502, 1]⟩
abbrev S502x11 : Shape := ⟨2, ![502, 11]⟩
abbrev S502x1x11x1 : Shape := ⟨4, ![502, 1, 11, 1]⟩
abbrev S1x502x1x11 : Shape := ⟨4, ![1, 502, 1, 11]⟩
abbrev S502x502x11x11 : Shape := ⟨4, ![502, 502, 11, 11]⟩
abbrev S502x502x11x11x1 : Shape := ⟨5, ![502, 502, 11, 11, 1]⟩
abbrev S502x502x11x11x2 : Shape := ⟨5, ![502, 502, 11, 11, 2]⟩
abbrev S16x3x502x502x11x11 : Shape := ⟨6, ![16, 3, 502, 502, 11, 11]⟩
abbrev S1x1x1x1x11x11 : Shape := ⟨6, ![1, 1, 1, 1, 11, 11]⟩
abbrev S16x3x502x502 : Shape := ⟨4, ![16, 3, 502, 502]⟩
abbrev S16 : Shape := ⟨1, ![16]⟩

abbrev nBuf : Space → Nat
  | .hbm => 123
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S11, .f32⟩
  | .hbm, ⟨3, _⟩ => ⟨S_, .f32⟩
  | .hbm, ⟨4, _⟩ => ⟨S11, .f32⟩
  | .hbm, ⟨5, _⟩ => ⟨S11, .f32⟩
  | .hbm, ⟨6, _⟩ => ⟨S11x1, .f32⟩
  | .hbm, ⟨7, _⟩ => ⟨S1x11, .f32⟩
  | .hbm, ⟨8, _⟩ => ⟨S11x11, .f32⟩
  | .hbm, ⟨9, _⟩ => ⟨S11x11, .f32⟩
  | .hbm, ⟨10, _⟩ => ⟨S11x11, .f32⟩
  | .hbm, ⟨11, _⟩ => ⟨S502, .i32⟩
  | .hbm, ⟨12, _⟩ => ⟨S502x1, .i32⟩
  | .hbm, ⟨13, _⟩ => ⟨S11, .i32⟩
  | .hbm, ⟨14, _⟩ => ⟨S1x11, .i32⟩
  | .hbm, ⟨15, _⟩ => ⟨S502x11, .i32⟩
  | .hbm, ⟨16, _⟩ => ⟨S502x11, .i32⟩
  | .hbm, ⟨17, _⟩ => ⟨S502x11, .i32⟩
  | .hbm, ⟨18, _⟩ => ⟨S502x1x11x1, .i32⟩
  | .hbm, ⟨19, _⟩ => ⟨S1x502x1x11, .i32⟩
  | .hbm, ⟨20, _⟩ => ⟨S502x502x11x11, .i32⟩
  | .hbm, ⟨21, _⟩ => ⟨S502x502x11x11, .i32⟩
  | .hbm, ⟨22, _⟩ => ⟨S502x502x11x11x1, .i32⟩
  | .hbm, ⟨23, _⟩ => ⟨S502x502x11x11x1, .i32⟩
  | .hbm, ⟨24, _⟩ => ⟨S502x502x11x11x2, .i32⟩
  | .hbm, ⟨25, _⟩ => ⟨S16x3x502x502x11x11, .f32⟩
  | .hbm, ⟨26, _⟩ => ⟨S1x1x1x1x11x11, .f32⟩
  | .hbm, ⟨27, _⟩ => ⟨S16x3x502x502x11x11, .f32⟩
  | .hbm, ⟨28, _⟩ => ⟨S16x3x502x502x11x11, .f32⟩
  | .hbm, ⟨29, _⟩ => ⟨S_, .f32⟩
  | .hbm, ⟨30, _⟩ => ⟨S16x3x502x502, .f32⟩
  | .hbm, ⟨31, _⟩ => ⟨S502x1x11x1, .i32⟩
  | .hbm, ⟨32, _⟩ => ⟨S1x502x1x11, .i32⟩
  | .hbm, ⟨33, _⟩ => ⟨S502x502x11x11, .i32⟩
  | .hbm, ⟨34, _⟩ => ⟨S502x502x11x11, .i32⟩
  | .hbm, ⟨35, _⟩ => ⟨S502x502x11x11x1, .i32⟩
  | .hbm, ⟨36, _⟩ => ⟨S502x502x11x11x1, .i32⟩
  | .hbm, ⟨37, _⟩ => ⟨S502x502x11x11x2, .i32⟩
  | .hbm, ⟨38, _⟩ => ⟨S16x3x502x502x11x11, .f32⟩
  | .hbm, ⟨39, _⟩ => ⟨S1x1x1x1x11x11, .f32⟩
  | .hbm, ⟨40, _⟩ => ⟨S16x3x502x502x11x11, .f32⟩
  | .hbm, ⟨41, _⟩ => ⟨S16x3x502x502x11x11, .f32⟩
  | .hbm, ⟨42, _⟩ => ⟨S_, .f32⟩
  | .hbm, ⟨43, _⟩ => ⟨S16x3x502x502, .f32⟩
  | .hbm, ⟨44, _⟩ => ⟨S16x3x502x502, .f32⟩
  | .hbm, ⟨45, _⟩ => ⟨S16x3x502x502, .f32⟩
  | .hbm, ⟨46, _⟩ => ⟨S16x3x502x502, .f32⟩
  | .hbm, ⟨47, _⟩ => ⟨S16x3x512x512, .f32⟩
  | .hbm, ⟨48, _⟩ => ⟨S502x1x11x1, .i32⟩
  | .hbm, ⟨49, _⟩ => ⟨S1x502x1x11, .i32⟩
  | .hbm, ⟨50, _⟩ => ⟨S502x502x11x11, .i32⟩
  | .hbm, ⟨51, _⟩ => ⟨S502x502x11x11, .i32⟩
  | .hbm, ⟨52, _⟩ => ⟨S502x502x11x11x1, .i32⟩
  | .hbm, ⟨53, _⟩ => ⟨S502x502x11x11x1, .i32⟩
  | .hbm, ⟨54, _⟩ => ⟨S502x502x11x11x2, .i32⟩
  | .hbm, ⟨55, _⟩ => ⟨S16x3x502x502x11x11, .f32⟩
  | .hbm, ⟨56, _⟩ => ⟨S1x1x1x1x11x11, .f32⟩
  | .hbm, ⟨57, _⟩ => ⟨S16x3x502x502x11x11, .f32⟩
  | .hbm, ⟨58, _⟩ => ⟨S16x3x502x502x11x11, .f32⟩
  | .hbm, ⟨59, _⟩ => ⟨S_, .f32⟩
  | .hbm, ⟨60, _⟩ => ⟨S16x3x502x502, .f32⟩
  | .hbm, ⟨61, _⟩ => ⟨S16x3x502x502, .f32⟩
  | .hbm, ⟨62, _⟩ => ⟨S16x3x512x512, .f32⟩
  | .hbm, ⟨63, _⟩ => ⟨S502x1x11x1, .i32⟩
  | .hbm, ⟨64, _⟩ => ⟨S1x502x1x11, .i32⟩
  | .hbm, ⟨65, _⟩ => ⟨S502x502x11x11, .i32⟩
  | .hbm, ⟨66, _⟩ => ⟨S502x502x11x11, .i32⟩
  | .hbm, ⟨67, _⟩ => ⟨S502x502x11x11x1, .i32⟩
  | .hbm, ⟨68, _⟩ => ⟨S502x502x11x11x1, .i32⟩
  | .hbm, ⟨69, _⟩ => ⟨S502x502x11x11x2, .i32⟩
  | .hbm, ⟨70, _⟩ => ⟨S16x3x502x502x11x11, .f32⟩
  | .hbm, ⟨71, _⟩ => ⟨S1x1x1x1x11x11, .f32⟩
  | .hbm, ⟨72, _⟩ => ⟨S16x3x502x502x11x11, .f32⟩
  | .hbm, ⟨73, _⟩ => ⟨S16x3x502x502x11x11, .f32⟩
  | .hbm, ⟨74, _⟩ => ⟨S_, .f32⟩
  | .hbm, ⟨75, _⟩ => ⟨S16x3x502x502, .f32⟩
  | .hbm, ⟨76, _⟩ => ⟨S16x3x502x502, .f32⟩
  | .hbm, ⟨77, _⟩ => ⟨S16x3x512x512, .f32⟩
  | .hbm, ⟨78, _⟩ => ⟨S502x1x11x1, .i32⟩
  | .hbm, ⟨79, _⟩ => ⟨S1x502x1x11, .i32⟩
  | .hbm, ⟨80, _⟩ => ⟨S502x502x11x11, .i32⟩
  | .hbm, ⟨81, _⟩ => ⟨S502x502x11x11, .i32⟩
  | .hbm, ⟨82, _⟩ => ⟨S502x502x11x11x1, .i32⟩
  | .hbm, ⟨83, _⟩ => ⟨S502x502x11x11x1, .i32⟩
  | .hbm, ⟨84, _⟩ => ⟨S502x502x11x11x2, .i32⟩
  | .hbm, ⟨85, _⟩ => ⟨S16x3x502x502x11x11, .f32⟩
  | .hbm, ⟨86, _⟩ => ⟨S1x1x1x1x11x11, .f32⟩
  | .hbm, ⟨87, _⟩ => ⟨S16x3x502x502x11x11, .f32⟩
  | .hbm, ⟨88, _⟩ => ⟨S16x3x502x502x11x11, .f32⟩
  | .hbm, ⟨89, _⟩ => ⟨S_, .f32⟩
  | .hbm, ⟨90, _⟩ => ⟨S16x3x502x502, .f32⟩
  | .hbm, ⟨91, _⟩ => ⟨S16x3x502x502, .f32⟩
  | .hbm, ⟨92, _⟩ => ⟨S_, .f32⟩
  | .hbm, ⟨93, _⟩ => ⟨S16x3x502x502, .f32⟩
  | .hbm, ⟨94, _⟩ => ⟨S16x3x502x502, .f32⟩
  | .hbm, ⟨95, _⟩ => ⟨S_, .f32⟩
  | .hbm, ⟨96, _⟩ => ⟨S16x3x502x502, .f32⟩
  | .hbm, ⟨97, _⟩ => ⟨S16x3x502x502, .f32⟩
  | .hbm, ⟨98, _⟩ => ⟨S16x3x502x502, .f32⟩
  | .hbm, ⟨99, _⟩ => ⟨S_, .f32⟩
  | .hbm, ⟨100, _⟩ => ⟨S16x3x502x502, .f32⟩
  | .hbm, ⟨101, _⟩ => ⟨S16x3x502x502, .f32⟩
  | .hbm, ⟨102, _⟩ => ⟨S16x3x502x502, .f32⟩
  | .hbm, ⟨103, _⟩ => ⟨S_, .f32⟩
  | .hbm, ⟨104, _⟩ => ⟨S16x3x502x502, .f32⟩
  | .hbm, ⟨105, _⟩ => ⟨S16x3x502x502, .f32⟩
  | .hbm, ⟨106, _⟩ => ⟨S_, .f32⟩
  | .hbm, ⟨107, _⟩ => ⟨S16x3x502x502, .f32⟩
  | .hbm, ⟨108, _⟩ => ⟨S16x3x502x502, .f32⟩
  | .hbm, ⟨109, _⟩ => ⟨S16x3x502x502, .f32⟩
  | .hbm, ⟨110, _⟩ => ⟨S_, .f32⟩
  | .hbm, ⟨111, _⟩ => ⟨S16x3x502x502, .f32⟩
  | .hbm, ⟨112, _⟩ => ⟨S16x3x502x502, .f32⟩
  | .hbm, ⟨113, _⟩ => ⟨S16x3x502x502, .f32⟩
  | .hbm, ⟨114, _⟩ => ⟨S16x3x502x502, .f32⟩
  | .hbm, ⟨115, _⟩ => ⟨S_, .f32⟩
  | .hbm, ⟨116, _⟩ => ⟨S16, .f32⟩
  | .hbm, ⟨117, _⟩ => ⟨S_, .f32⟩
  | .hbm, ⟨118, _⟩ => ⟨S16, .f32⟩
  | .hbm, ⟨119, _⟩ => ⟨S16, .f32⟩
  | .hbm, ⟨120, _⟩ => ⟨S_, .f32⟩
  | .hbm, ⟨121, _⟩ => ⟨S16, .f32⟩
  | .hbm, ⟨122, _⟩ => ⟨S16, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_1 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_2 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_cst_3 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_cst_4 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_cst_5 : Ref sig .tc := ⟨.hbm, 89, rfl⟩
abbrev main_v81 : Ref sig .tc := ⟨.hbm, 90, rfl⟩
abbrev main_v82 : Ref sig .tc := ⟨.hbm, 91, rfl⟩
abbrev main_cst_6 : Ref sig .tc := ⟨.hbm, 92, rfl⟩
abbrev main_v83 : Ref sig .tc := ⟨.hbm, 93, rfl⟩
abbrev main_v84 : Ref sig .tc := ⟨.hbm, 94, rfl⟩
abbrev main_cst_7 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_cst_8 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_cst_9 : Ref sig .tc := ⟨.hbm, 103, rfl⟩
abbrev main_v91 : Ref sig .tc := ⟨.hbm, 104, rfl⟩
abbrev main_v92 : Ref sig .tc := ⟨.hbm, 105, rfl⟩
abbrev main_cst_10 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_cst_11 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_cst_12 : Ref sig .tc := ⟨.hbm, 115, rfl⟩
abbrev main_v100 : Ref sig .tc := ⟨.hbm, 116, rfl⟩
abbrev main_cst_13 : Ref sig .tc := ⟨.hbm, 117, rfl⟩
abbrev main_v101 : Ref sig .tc := ⟨.hbm, 118, rfl⟩
abbrev main_v102 : Ref sig .tc := ⟨.hbm, 119, rfl⟩
abbrev main_cst_14 : Ref sig .tc := ⟨.hbm, 120, rfl⟩
abbrev main_v103 : Ref sig .tc := ⟨.hbm, 121, rfl⟩
abbrev main_v104 : Ref sig .tc := ⟨.hbm, 122, rfl⟩

abbrev nD : Nat := 1
abbrev τ : Topo := Topo.v7x

variable {F : FTy → Type} [FloatOps F]
-- ==== Proof.Pixel.lean ====
/-
  One place of the similarity map, over the extended reals. A place sees an 11×11 window of either image; the kernel
  forms its value from four window sums of shifted products, the reference from five window means. The two agree for
  every window, the infinite entries included, and the common value is a real number.
-/
module

public import Idealize.ShloMosaic.PureOps.Ideal

@[expose] public section

noncomputable section

namespace Cert.Pixel

open Idealize.ShloMosaic

/-- An extended real that is one of the two infinities. -/
def Infinite (x : EReal) : Prop := x = ⊤ ∨ x = ⊥

/-- Every extended real is infinite or a real number. -/
theorem infinite_or_real (x : EReal) : Infinite x ∨ ∃ r : ℝ, x = (r : EReal) := by
  induction x with
  | bot => exact .inl (.inr rfl)
  | coe r => exact .inr ⟨r, rfl⟩
  | top => exact .inl (.inl rfl)

/-- A sum whose first summand is infinite is infinite. -/
theorem Infinite.add {x : EReal} (h : Infinite x) (y : EReal) : Infinite (x + y) := by
  rcases h with rfl | rfl
  · induction y with
    | bot => exact .inr rfl
    | coe r => exact .inl (EReal.top_add_coe r)
    | top => exact .inl rfl
  · exact .inr (EReal.bot_add y)

/-- A sum whose second summand is infinite is infinite. -/
theorem Infinite.add' {y : EReal} (h : Infinite y) (x : EReal) : Infinite (x + y) := by
  rw [add_comm]; exact h.add x

/-- The negative of an infinite number is infinite. -/
theorem Infinite.neg {x : EReal} (h : Infinite x) : Infinite (-x) := by
  rcases h with rfl | rfl
  · exact .inr rfl
  · exact .inl rfl

/-- A difference whose first term is infinite is infinite. -/
theorem Infinite.sub {x : EReal} (h : Infinite x) (y : EReal) : Infinite (x - y) := by
  rw [sub_eq_add_neg]; exact h.add _

/-- A difference whose second term is infinite is infinite. -/
theorem Infinite.sub' {y : EReal} (h : Infinite y) (x : EReal) : Infinite (x - y) := by
  rw [sub_eq_add_neg]; exact h.neg.add' _

/-- An infinite number times a positive real is infinite. -/
theorem Infinite.mul_pos {x : EReal} (h : Infinite x) {r : ℝ} (hr : 0 < r) : Infinite (x * (r : EReal)) := by
  rcases h with rfl | rfl
  · exact .inl (EReal.top_mul_coe_of_pos hr)
  · exact .inr (EReal.bot_mul_coe_of_pos hr)

/-- The square of an infinite number is `⊤`. -/
theorem Infinite.mul_self {x : EReal} (h : Infinite x) : x * x = ⊤ := by
  rcases h with rfl | rfl <;> rfl

/-- An infinite number times `⊥` is infinite. -/
theorem Infinite.mul_bot {x : EReal} (h : Infinite x) : Infinite (x * ⊥) := by
  rcases h with rfl | rfl
  · exact .inr rfl
  · exact .inl rfl

/-- A finite sum with an infinite term is infinite. -/
theorem Infinite.sum {ι : Type*} (s : Finset ι) (f : ι → EReal) {i : ι} (hi : i ∈ s) (h : Infinite (f i)) :
    Infinite (∑ j ∈ s, f j) := by
  classical
  rw [← Finset.add_sum_erase s f hi]; exact h.add _

/-- A square is `⊤` or a real number that is not negative. -/
theorem mul_self_cases (y : EReal) : y * y = ⊤ ∨ ∃ r : ℝ, y * y = (r : EReal) := by
  rcases infinite_or_real y with h | ⟨r, rfl⟩
  · exact .inl h.mul_self
  · exact .inr ⟨r * r, (EReal.coe_mul r r).symm⟩

/-- Two squares, one of an infinite number, and a real number add up to `⊤`. -/
theorem squares_top {x y : EReal} (h : Infinite x ∨ Infinite y) (c : ℝ) : x * x + y * y + (c : EReal) = ⊤ := by
  rcases h with h | h
  · rw [h.mul_self]
    rcases mul_self_cases y with e | ⟨r, e⟩ <;> rw [e]
    · rfl
    · rw [EReal.top_add_coe, EReal.top_add_coe]
  · rw [h.mul_self]
    rcases mul_self_cases x with e | ⟨r, e⟩ <;> rw [e]
    · rfl
    · rw [EReal.coe_add_top, EReal.top_add_coe]

/-- Any number over an infinite one is zero. -/
theorem div_infinite (x : EReal) {y : EReal} (h : Infinite y) : Ideal.div x y = 0 := by
  rcases h with rfl | rfl <;> simp [Ideal.div]

/-- A finite sum of reals, read as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor not zero. -/
theorem div_real (x : ℝ) {y : ℝ} (h : y ≠ 0) : Ideal.div (x : EReal) (y : EReal) = ((x / y : ℝ) : EReal) := by
  rw [Ideal.div_coe h, ← EReal.coe_mul, mul_one_div]

/-! ## The two forms of a place's value -/

/-- A window of one image: eleven rows of eleven entries. -/
abbrev Win := Fin 11 → Fin 11 → EReal

/-- The window mean: every entry times the product of its two taps, summed. -/
def wsum (k : Fin 11 → ℝ) (P : Win) : EReal := ∑ t, ∑ s, P t s * ((k t * k s : ℝ) : EReal)

/-- The two passes of the kernel's filter, each with the taps doubled: down the columns, then along the row. -/
def ksum (k : Fin 11 → ℝ) (P : Win) : EReal :=
  ∑ s, (∑ t, P t s * ((2 * k t : ℝ) : EReal)) * ((2 * k s : ℝ) : EReal)

/-- The kernel's value at a place, from the filtered half sum `dd`, half difference `ee`, scaled squares `qq` and
    scaled product `xy`. -/
def kpix (c1 c2 : ℝ) (dd ee qq xy : EReal) : EReal :=
  Ideal.div
    ((((64 : ℝ) : EReal) * xy - (((1 / 8 : ℝ) : EReal) * (dd * dd) - ((1 / 8 : ℝ) : EReal) * (ee * ee))
        + (((0 : ℝ) : EReal) * dd + (c2 : EReal)))
      * ((((1 / 8 : ℝ) : EReal) * (dd * dd) - ((1 / 8 : ℝ) : EReal) * (ee * ee))
        + (((255 / 2 : ℝ) : EReal) * dd + ((2 * (255 / 2) ^ 2 + c1 : ℝ) : EReal))))
    ((((64 : ℝ) : EReal) * qq - (((1 / 8 : ℝ) : EReal) * (dd * dd) + ((1 / 8 : ℝ) : EReal) * (ee * ee))
        + (((0 : ℝ) : EReal) * dd + (c2 : EReal)))
      * ((((1 / 8 : ℝ) : EReal) * (dd * dd) + ((1 / 8 : ℝ) : EReal) * (ee * ee))
        + (((255 / 2 : ℝ) : EReal) * dd + ((2 * (255 / 2) ^ 2 + c1 : ℝ) : EReal))))

/-- The reference's value at a place, from the means of the two images, of their squares and of their product. -/
def rpix (c1 c2 : ℝ) (m1 m2 q1 q2 q12 : EReal) : EReal :=
  Ideal.div (((2 : ℝ) : EReal) * (m1 * m2) + (c1 : EReal)) (m1 * m1 + m2 * m2 + (c1 : EReal))
    * Ideal.div (((2 : ℝ) : EReal) * (q12 - m1 * m2) + (c2 : EReal)) ((q1 - m1 * m1) + (q2 - m2 * m2) + (c2 : EReal))

/-- The half sum of the two shifted windows. -/
def half (X Y : Win) : Win := fun t s =>
  ((X t s - ((255 / 2 : ℝ) : EReal)) + (Y t s - ((255 / 2 : ℝ) : EReal))) * ((1 / 2 : ℝ) : EReal)
/-- The half difference of the two shifted windows. -/
def diff (X Y : Win) : Win := fun t s =>
  ((X t s - ((255 / 2 : ℝ) : EReal)) - (Y t s - ((255 / 2 : ℝ) : EReal))) * ((1 / 2 : ℝ) : EReal)
/-- The two shifted squares, added and scaled by 1/256. -/
def sqs (X Y : Win) : Win := fun t s =>
  ((X t s - ((255 / 2 : ℝ) : EReal)) * (X t s - ((255 / 2 : ℝ) : EReal))
    + (Y t s - ((255 / 2 : ℝ) : EReal)) * (Y t s - ((255 / 2 : ℝ) : EReal))) * ((1 / 256 : ℝ) : EReal)
/-- The shifted product, scaled by 1/128. -/
def prod (X Y : Win) : Win := fun t s =>
  ((X t s - ((255 / 2 : ℝ) : EReal)) * (Y t s - ((255 / 2 : ℝ) : EReal))) * ((1 / 128 : ℝ) : EReal)

/-! ## Real windows -/

/-- The window mean of reals. -/
def mean (k : Fin 11 → ℝ) (f : Fin 11 → Fin 11 → ℝ) : ℝ := ∑ t, ∑ s, f t s * (k t * k s)

section Mean
variable (k : Fin 11 → ℝ) (f g : Fin 11 → Fin 11 → ℝ)

/-- The mean of a sum. -/
theorem mean_add : mean k (fun t s => f t s + g t s) = mean k f + mean k g := by
  simp only [mean, add_mul, Finset.sum_add_distrib]

/-- The mean of a difference. -/
theorem mean_sub : mean k (fun t s => f t s - g t s) = mean k f - mean k g := by
  simp only [mean, sub_mul, Finset.sum_sub_distrib]

/-- The mean of a multiple. -/
theorem mean_mul (c : ℝ) : mean k (fun t s => f t s * c) = mean k f * c := by
  simp only [mean, Finset.sum_mul, mul_right_comm]

/-- The mean of a constant, the taps adding up to one. -/
theorem mean_const (hk : ∑ t, k t = 1) (c : ℝ) : mean k (fun _ _ => c) = c := by
  simp only [mean, ← Finset.mul_sum, hk, mul_one]

/-- The mean of what is not negative is not negative. -/
theorem mean_nonneg (hk : ∀ t, 0 < k t) (hf : ∀ t s, 0 ≤ f t s) : 0 ≤ mean k f :=
  Finset.sum_nonneg fun t _ => Finset.sum_nonneg fun s _ => mul_nonneg (hf t s) (mul_pos (hk t) (hk s)).le

/-- The square of the mean is at most the mean of the squares. -/
theorem mean_sq_le (hk : ∀ t, 0 < k t) (h1 : ∑ t, k t = 1) : mean k f * mean k f ≤ mean k (fun t s => f t s * f t s) := by
  have h := mean_nonneg k (fun t s => (f t s - mean k f) * (f t s - mean k f)) hk fun t s => mul_self_nonneg _
  have e : (fun t s => (f t s - mean k f) * (f t s - mean k f))
      = fun t s => (f t s * f t s - f t s * (2 * mean k f)) + mean k f * mean k f := by
    funext t s; ring
  rw [e, mean_add k (fun t s => f t s * f t s - f t s * (2 * mean k f)) (fun _ _ => mean k f * mean k f),
    mean_sub k (fun t s => f t s * f t s) (fun t s => f t s * (2 * mean k f)), mean_mul, mean_const k h1] at h
  linarith

/-- The window mean of real entries is the mean of reals. -/
theorem wsum_real : wsum k (fun t s => (f t s : EReal)) = (mean k f : EReal) := by
  simp only [wsum, mean, coe_sum, EReal.coe_mul]

/-- The kernel's two passes over real entries give four times the mean. -/
theorem ksum_real : ksum k (fun t s => (f t s : EReal)) = ((4 * mean k f : ℝ) : EReal) := by
  have e : 4 * mean k f = ∑ s, (∑ t, f t s * (2 * k t)) * (2 * k s) := by
    rw [mean, Finset.sum_comm, Finset.mul_sum]
    refine Finset.sum_congr rfl fun s _ => ?_
    rw [Finset.mul_sum, Finset.sum_mul]
    exact Finset.sum_congr rfl fun t _ => by ring
  rw [e]; simp only [ksum, coe_sum, EReal.coe_mul]

end Mean

/-- The agreement on real windows. -/
theorem pixel_real (k : Fin 11 → ℝ) (hk : ∀ t, 0 < k t) (h1 : ∑ t, k t = 1) {c1 c2 : ℝ} (hc1 : 0 < c1) (hc2 : 0 < c2)
    (x y : Fin 11 → Fin 11 → ℝ) :
    ∃ r : ℝ,
      kpix c1 c2 (ksum k (half (fun t s => (x t s : EReal)) fun t s => (y t s : EReal)))
        (ksum k (diff (fun t s => (x t s : EReal)) fun t s => (y t s : EReal)))
        (ksum k (sqs (fun t s => (x t s : EReal)) fun t s => (y t s : EReal)))
        (ksum k (prod (fun t s => (x t s : EReal)) fun t s => (y t s : EReal))) = (r : EReal)
      ∧ rpix c1 c2 (wsum k fun t s => (x t s : EReal)) (wsum k fun t s => (y t s : EReal))
        (wsum k fun t s => (x t s : EReal) * (x t s : EReal)) (wsum k fun t s => (y t s : EReal) * (y t s : EReal))
        (wsum k fun t s => (x t s : EReal) * (y t s : EReal)) = (r : EReal) := by
  have hx := mean_sq_le k x hk h1
  have hy := mean_sq_le k y hk h1
  set X := mean k x with hX
  set Y := mean k y with hY
  set A := mean k (fun t s => x t s * x t s) with hA
  set B := mean k (fun t s => y t s * y t s) with hB
  set C := mean k (fun t s => x t s * y t s) with hC
  have e1 : ksum k (half (fun t s => (x t s : EReal)) fun t s => (y t s : EReal)) = ((2 * (X + Y - 255) : ℝ) : EReal) := by
    unfold half
    simp only [← EReal.coe_sub, ← EReal.coe_add, ← EReal.coe_mul]
    rw [ksum_real, mean_mul, mean_add k (fun t s => x t s - 255 / 2) (fun t s => y t s - 255 / 2),
      mean_sub k x (fun _ _ => 255 / 2), mean_sub k y (fun _ _ => 255 / 2), mean_const k h1, ← hX, ← hY]
    congr 1; ring
  have e2 : ksum k (diff (fun t s => (x t s : EReal)) fun t s => (y t s : EReal)) = ((2 * (X - Y) : ℝ) : EReal) := by
    unfold diff
    simp only [← EReal.coe_sub, ← EReal.coe_add, ← EReal.coe_mul]
    rw [ksum_real, mean_mul, mean_sub k (fun t s => x t s - 255 / 2) (fun t s => y t s - 255 / 2),
      mean_sub k x (fun _ _ => 255 / 2), mean_sub k y (fun _ _ => 255 / 2), mean_const k h1, ← hX, ← hY]
    congr 1; ring
  have e3 : ksum k (sqs (fun t s => (x t s : EReal)) fun t s => (y t s : EReal))
      = (((A + B - 255 * X - 255 * Y + 255 * 255 / 2) / 64 : ℝ) : EReal) := by
    unfold sqs
    simp only [← EReal.coe_sub, ← EReal.coe_add, ← EReal.coe_mul]
    rw [ksum_real]
    have e : (fun t s => ((x t s - 255 / 2) * (x t s - 255 / 2) + (y t s - 255 / 2) * (y t s - 255 / 2)) * (1 / 256))
        = fun t s => (((x t s * x t s + y t s * y t s) - (x t s + y t s) * 255) + 255 * 255 / 2) * (1 / 256 : ℝ) := by
      funext t s; ring
    rw [e, mean_mul, mean_add k (fun t s => (x t s * x t s + y t s * y t s) - (x t s + y t s) * 255) (fun _ _ => 255 * 255 / 2),
      mean_sub k (fun t s => x t s * x t s + y t s * y t s) (fun t s => (x t s + y t s) * 255),
      mean_add k (fun t s => x t s * x t s) (fun t s => y t s * y t s), mean_mul, mean_add k x y, mean_const k h1,
      ← hX, ← hY, ← hA, ← hB]
    congr 1; ring
  have e4 : ksum k (prod (fun t s => (x t s : EReal)) fun t s => (y t s : EReal))
      = (((C - 255 / 2 * X - 255 / 2 * Y + 255 * 255 / 4) / 32 : ℝ) : EReal) := by
    unfold prod
    simp only [← EReal.coe_sub, ← EReal.coe_add, ← EReal.coe_mul]
    rw [ksum_real]
    have e : (fun t s => ((x t s - 255 / 2) * (y t s - 255 / 2)) * (1 / 128))
        = fun t s => ((x t s * y t s - (x t s + y t s) * (255 / 2)) + 255 * 255 / 4) * (1 / 128 : ℝ) := by
      funext t s; ring
    rw [e, mean_mul, mean_add k (fun t s => x t s * y t s - (x t s + y t s) * (255 / 2)) (fun _ _ => 255 * 255 / 4),
      mean_sub k (fun t s => x t s * y t s) (fun t s => (x t s + y t s) * (255 / 2)),
      mean_mul, mean_add k x y, mean_const k h1, ← hX, ← hY, ← hC]
    congr 1; ring
  have d1 : X * X + Y * Y + c1 ≠ 0 := by nlinarith [mul_self_nonneg X, mul_self_nonneg Y]
  have d2 : (A - X * X) + (B - Y * Y) + c2 ≠ 0 := by
    have : 0 < (A - X * X) + (B - Y * Y) + c2 := by linarith
    exact this.ne'
  refine ⟨(2 * (X * Y) + c1) / (X * X + Y * Y + c1) * ((2 * (C - X * Y) + c2) / ((A - X * X) + (B - Y * Y) + c2)), ?_, ?_⟩
  · rw [e1, e2, e3, e4, kpix]
    simp only [← EReal.coe_sub, ← EReal.coe_add, ← EReal.coe_mul]
    have hd : (64 * ((A + B - 255 * X - 255 * Y + 255 * 255 / 2) / 64) - (1 / 8 * (2 * (X + Y - 255) * (2 * (X + Y - 255)))
          + 1 / 8 * (2 * (X - Y) * (2 * (X - Y)))) + (0 * (2 * (X + Y - 255)) + c2))
        * (1 / 8 * (2 * (X + Y - 255) * (2 * (X + Y - 255))) + 1 / 8 * (2 * (X - Y) * (2 * (X - Y)))
          + (255 / 2 * (2 * (X + Y - 255)) + (2 * (255 / 2) ^ 2 + c1)))
        = (X * X + Y * Y + c1) * ((A - X * X) + (B - Y * Y) + c2) := by ring
    have hn : (64 * ((C - 255 / 2 * X - 255 / 2 * Y + 255 * 255 / 4) / 32) - (1 / 8 * (2 * (X + Y - 255) * (2 * (X + Y - 255)))
          - 1 / 8 * (2 * (X - Y) * (2 * (X - Y)))) + (0 * (2 * (X + Y - 255)) + c2))
        * (1 / 8 * (2 * (X + Y - 255) * (2 * (X + Y - 255))) - 1 / 8 * (2 * (X - Y) * (2 * (X - Y)))
          + (255 / 2 * (2 * (X + Y - 255)) + (2 * (255 / 2) ^ 2 + c1)))
        = (2 * (X * Y) + c1) * (2 * (C - X * Y) + c2) := by ring
    rw [hd, hn, div_real _ (mul_ne_zero d1 d2), mul_div_mul_comm]
  · simp only [← EReal.coe_mul]
    rw [wsum_real, wsum_real, wsum_real k (fun t s => x t s * x t s), wsum_real k (fun t s => y t s * y t s),
      wsum_real k (fun t s => x t s * y t s), ← hX, ← hY, ← hA, ← hB, ← hC, rpix]
    simp only [← EReal.coe_sub, ← EReal.coe_add, ← EReal.coe_mul]
    rw [div_real _ d1, div_real _ d2, ← EReal.coe_mul]

/-! ## Windows with an infinite entry -/

/-- The kernel's two passes over a window with an infinite entry. -/
theorem ksum_infinite (k : Fin 11 → ℝ) (hk : ∀ t, 0 < k t) (P : Win) {t s : Fin 11} (h : Infinite (P t s)) :
    Infinite (ksum k P) := by
  refine Infinite.sum _ _ (Finset.mem_univ s) (Infinite.mul_pos ?_ (by linarith [hk s]))
  exact Infinite.sum _ (fun t => P t s * ((2 * k t : ℝ) : EReal)) (Finset.mem_univ t) (h.mul_pos (by linarith [hk t]))

/-- The window mean of a window with an infinite entry. -/
theorem wsum_infinite (k : Fin 11 → ℝ) (hk : ∀ t, 0 < k t) (P : Win) {t s : Fin 11} (h : Infinite (P t s)) :
    Infinite (wsum k P) := by
  refine Infinite.sum _ _ (Finset.mem_univ t) ?_
  exact Infinite.sum _ (fun s => P t s * ((k t * k s : ℝ) : EReal)) (Finset.mem_univ s)
    (h.mul_pos (mul_pos (hk t) (hk s)))

/-- The kernel's value is zero when the filtered half sum and half difference are infinite. -/
theorem kpix_infinite (c1 c2 : ℝ) {dd ee : EReal} (hd : Infinite dd) (he : Infinite ee) (qq xy : EReal) :
    kpix c1 c2 dd ee qq xy = 0 := by
  have l : Infinite (((255 / 2 : ℝ) : EReal) * dd) := by
    rw [mul_comm]; exact hd.mul_pos (by norm_num)
  have t : ((1 / 8 : ℝ) : EReal) * ⊤ = ⊤ := EReal.coe_mul_top_of_pos (by norm_num)
  have z : ((0 : ℝ) : EReal) * dd = 0 := by rw [EReal.coe_zero, zero_mul]
  rw [kpix, hd.mul_self, he.mul_self, t, z]
  refine div_infinite _ ?_
  have b : ((64 : ℝ) : EReal) * qq - (⊤ + ⊤) + (0 + (c2 : EReal)) = ⊥ := by
    rw [show (⊤ + ⊤ : EReal) = ⊤ from rfl, sub_eq_add_neg, EReal.neg_top, EReal.add_bot, EReal.bot_add]
  rw [b, mul_comm]
  exact ((l.add _).add' _).mul_bot

/-- The reference's value is zero when one of the two means is infinite. -/
theorem rpix_infinite (c1 c2 : ℝ) {m1 m2 : EReal} (h : Infinite m1 ∨ Infinite m2) (q1 q2 q12 : EReal) :
    rpix c1 c2 m1 m2 q1 q2 q12 = 0 := by
  rw [rpix, squares_top h, div_infinite _ (.inl rfl), zero_mul]

/-- THE AGREEMENT AT A PLACE: for any two windows the kernel's value is the reference's, and it is a real number. -/
theorem pixel (k : Fin 11 → ℝ) (hk : ∀ t, 0 < k t) (h1 : ∑ t, k t = 1) {c1 c2 : ℝ} (hc1 : 0 < c1) (hc2 : 0 < c2)
    (X Y : Win) :
    ∃ r : ℝ, kpix c1 c2 (ksum k (half X Y)) (ksum k (diff X Y)) (ksum k (sqs X Y)) (ksum k (prod X Y)) = (r : EReal)
      ∧ rpix c1 c2 (wsum k X) (wsum k Y) (wsum k fun t s => X t s * X t s) (wsum k fun t s => Y t s * Y t s)
        (wsum k fun t s => X t s * Y t s) = (r : EReal) := by
  by_cases h : ∃ t s, Infinite (X t s) ∨ Infinite (Y t s)
  · obtain ⟨t, s, h⟩ := h
    have hh : Infinite (half X Y t s) := by
      refine Infinite.mul_pos ?_ (by norm_num)
      rcases h with h | h
      · exact (h.sub _).add _
      · exact (h.sub _).add' _
    have hd : Infinite (diff X Y t s) := by
      refine Infinite.mul_pos ?_ (by norm_num)
      rcases h with h | h
      · exact (h.sub _).sub _
      · exact (h.sub _).sub' _
    refine ⟨0, ?_, ?_⟩
    · rw [kpix_infinite _ _ (ksum_infinite k hk _ hh) (ksum_infinite k hk _ hd), EReal.coe_zero]
    · rw [rpix_infinite, EReal.coe_zero]
      exact h.imp (wsum_infinite k hk X) (wsum_infinite k hk Y)
  · push Not at h
    choose x hx using fun t s => (infinite_or_real (X t s)).resolve_left (h t s).1
    choose y hy using fun t s => (infinite_or_real (Y t s)).resolve_left (h t s).2
    obtain rfl : X = fun t s => (x t s : EReal) := by funext t s; exact hx t s
    obtain rfl : Y = fun t s => (y t s : EReal) := by funext t s; exact hy t s
    exact pixel_real k hk h1 hc1 hc2 x y

end Cert.Pixel

end
-- ==== Proof.Plane.lean ====
/-
  The kernel's work on one colour plane, read index by index over the extended reals: what the four slices of the
  scratch buffer hold, the two filter passes, and the sum over the plane.
-/
module

public import proofs.«01_k».proof.Proof.Gen.KernelIdeal.Skeleton
public import proofs.«01_k».proof.Proof.Pixel
public import Idealize.ShloMosaic.Lib.ValueIdx
public import Idealize.ShloMosaic.PureOps.Ideal.Laws
public import Idealize.ShloMosaic.Lib.Pipeline.Value

@[expose] public section

set_option maxRecDepth 16384

noncomputable section

namespace Cert.Plane

open Idealize.ShloMosaic Idealize.ShloMosaic.ValueIdx Cert.KernelIdeal Cert.KernelIdeal.Gen

/-! ## The literal words as numbers -/

/-- The bf16 word of 1/8. -/
theorem w_eighth : Ideal.ofBits .bf16 0x3E00#16 = ((1 / 8 : ℝ) : EReal) := by
  simp [Ideal.ofBits, Ideal.ieee, -EReal.coe_mul]; norm_num
/-- The bf16 word of 127.5. -/
theorem w_center : Ideal.ofBits .bf16 0x42FF#16 = ((255 / 2 : ℝ) : EReal) := by
  simp [Ideal.ofBits, Ideal.ieee, -EReal.coe_mul]; norm_num
/-- The bf16 word of 64. -/
theorem w_64 : Ideal.ofBits .bf16 0x4280#16 = ((64 : ℝ) : EReal) := by
  simp [Ideal.ofBits, Ideal.ieee, -EReal.coe_mul]; norm_num
/-- The bf16 word of zero. -/
theorem w_zero : Ideal.ofBits .bf16 0x0000#16 = ((0 : ℝ) : EReal) := by
  simp [Ideal.ofBits, Ideal.ieee]
/-- The bf16 word of 1/2. -/
theorem w_half : Ideal.ofBits .bf16 0x3F00#16 = ((1 / 2 : ℝ) : EReal) := by
  simp [Ideal.ofBits, Ideal.ieee, -EReal.coe_mul]; norm_num
/-- The bf16 word of 1/256. -/
theorem w_256 : Ideal.ofBits .bf16 0x3B80#16 = ((1 / 256 : ℝ) : EReal) := by
  simp [Ideal.ofBits, Ideal.ieee, -EReal.coe_mul]; norm_num
/-- The bf16 word of 1/128. -/
theorem w_128 : Ideal.ofBits .bf16 0x3C00#16 = ((1 / 128 : ℝ) : EReal) := by
  simp [Ideal.ofBits, Ideal.ieee, -EReal.coe_mul]; norm_num
/-- The f32 word of 10140. -/
theorem w_pad : Ideal.ofBits .f32 0x461E7000#32 = ((10140 : ℝ) : EReal) := by
  simp [Ideal.ofBits, Ideal.ieee, -EReal.coe_mul]; norm_num

/-- The luminance constant C1, the f32 nearest to 2.55². -/
def c1 : ℝ := 68197291131 / 2097152 - 2 * (255 / 2) ^ 2
/-- The structure constant C2, the f32 nearest to 7.65². -/
def c2 : ℝ := 7670661 / 131072

/-- C1 is positive. -/
theorem c1_pos : 0 < c1 := by unfold c1; norm_num
/-- C2 is positive. -/
theorem c2_pos : 0 < c2 := by unfold c2; norm_num

/-- The named luminance constant is twice the squared centre plus C1. -/
theorem n_lum : Named.named (F := Ideal) κ "k_lum" (φ := .bf16) 0x46FE#16 = ((2 * (255 / 2) ^ 2 + c1 : ℝ) : EReal) := by
  rw [IdealRules.named_const.ideal_named_scalar κ "k_lum" _ _ rfl]
  congr 1; unfold c1; ring
/-- The named structure constant is C2. -/
theorem n_cs : Named.named (F := Ideal) κ "k_cs" (φ := .bf16) 0x426A#16 = (c2 : EReal) := by
  rw [IdealRules.named_const.ideal_named_scalar κ "k_cs" _ _ rfl]; rfl

/-! ## The two filter passes -/

variable (K : Vec Ideal S512x512 .fp8e4m3) (S : Vec Ideal S512x2048 .fp8e4m3)

/-- The two passes over the slice of the scratch buffer that starts at column `o`: first along its rows, then along
    its columns. -/
def conv (o : ℕ) (ho : o + 512 ≤ 2048) (j j2 : Fin 512) : EReal :=
  ∑ c : Fin 512, (∑ r : Fin 512, S (ix2 r ⟨o + c.val, by omega⟩) * K (ix2 r j)) * K (ix2 c j2)

/-- The stacked first pass at an index. -/
theorem first_apply (c : Fin 2048) (j : Fin 512) :
    k0_pay9 (F := Ideal) K S (ix2 c j) = ∑ r : Fin 512, S (ix2 r c) * K (ix2 r j) := by
  refine (Ideal.matmul_constant_zero_apply (φ₁ := .fp8e4m3) (φ₂ := .fp8e4m3) dot_S512x2048_S512x512_S2048x512_0_0_1_1_n_n none S K (ix2 c j)).trans ?_
  rw [← Equiv.sum_comp (contrEquiv1 dot_S512x2048_S512x512_S2048x512_0_0_1_1_n_n 512 rfl rfl).symm]
  refine Finset.sum_congr rfl fun r _ => ?_
  have hk := contrEquiv1_symm_val dot_S512x2048_S512x512_S2048x512_0_0_1_1_n_n 512 rfl rfl r
  have el : dot_S512x2048_S512x512_S2048x512_0_0_1_1_n_n.lhsIdx (ix2 c j)
      ((contrEquiv1 dot_S512x2048_S512x512_S2048x512_0_0_1_1_n_n 512 rfl rfl).symm r) = ix2 r c := by
    funext a; apply Fin.ext
    match a with
    | ⟨0, _⟩ => exact hk
    | ⟨1, _⟩ => rfl
  have er : dot_S512x2048_S512x512_S2048x512_0_0_1_1_n_n.rhsIdx (ix2 c j)
      ((contrEquiv1 dot_S512x2048_S512x512_S2048x512_0_0_1_1_n_n 512 rfl rfl).symm r) = ix2 r j := by
    funext a; apply Fin.ext
    match a with
    | ⟨0, _⟩ => exact hk
    | ⟨1, _⟩ => rfl
  rw [el, er]

/-- A second pass at an index, over any first-pass result. -/
theorem second_apply (A : FVec Ideal S512x512 .fp8e4m3) (j j2 : Fin 512) :
    FloatOps.matmul (φ₁ := .fp8e4m3) (φ₂ := .fp8e4m3) dot_S512x512_S512x512_S512x512_0_0_1_1_n_n none A (K : FVec Ideal S512x512 .fp8e4m3)
      (constant S512x512 .f32 0x00000000#32) (ix2 j j2) = ∑ c : Fin 512, A (ix2 c j) * K (ix2 c j2) := by
  refine (Ideal.matmul_constant_zero_apply (φ₁ := .fp8e4m3) (φ₂ := .fp8e4m3) dot_S512x512_S512x512_S512x512_0_0_1_1_n_n none A K (ix2 j j2)).trans ?_
  rw [← Equiv.sum_comp (contrEquiv1 dot_S512x512_S512x512_S512x512_0_0_1_1_n_n 512 rfl rfl).symm]
  refine Finset.sum_congr rfl fun r _ => ?_
  have hk := contrEquiv1_symm_val dot_S512x512_S512x512_S512x512_0_0_1_1_n_n 512 rfl rfl r
  have el : dot_S512x512_S512x512_S512x512_0_0_1_1_n_n.lhsIdx (ix2 j j2)
      ((contrEquiv1 dot_S512x512_S512x512_S512x512_0_0_1_1_n_n 512 rfl rfl).symm r) = ix2 r j := by
    funext a; apply Fin.ext
    match a with
    | ⟨0, _⟩ => exact hk
    | ⟨1, _⟩ => rfl
  have er : dot_S512x512_S512x512_S512x512_0_0_1_1_n_n.rhsIdx (ix2 j j2)
      ((contrEquiv1 dot_S512x512_S512x512_S512x512_0_0_1_1_n_n 512 rfl rfl).symm r) = ix2 r j2 := by
    funext a; apply Fin.ext
    match a with
    | ⟨0, _⟩ => exact hk
    | ⟨1, _⟩ => rfl
  rw [el, er]

/-- A second pass over the slice of the stacked first pass that starts at row `o`. -/
theorem conv_apply (o : ℕ) (ho : o + 512 ≤ 2048) (h : S2048x512.Slices ![o, 0] S512x512) (j j2 : Fin 512) :
    FloatOps.matmul (φ₁ := .fp8e4m3) (φ₂ := .fp8e4m3) dot_S512x512_S512x512_S512x512_0_0_1_1_n_n none
      (extractStridedSlice S512x512 ![o, 0] (k0_pay9 (F := Ideal) K S) h) (K : FVec Ideal S512x512 .fp8e4m3)
      (constant S512x512 .f32 0x00000000#32) (ix2 j j2) = conv K S o ho j j2 := by
  rw [second_apply]
  refine Finset.sum_congr rfl fun c _ => congrArg (· * K (ix2 c j2)) ?_
  rw [← first_apply]
  refine extractStridedSlice_apply _ _ _ _ _ fun a => ?_
  match a with
  | ⟨0, _⟩ => rfl
  | ⟨1, _⟩ => exact (Nat.zero_add _).symm

/-- The sum of a plane through a leading unit axis: the double sum over its coordinates. -/
theorem plane_sum (v : FVec Ideal S512x512 .f32) :
    extractAt ![0, 0, 0] (shapeCast S1x1x1 (multiReduction .add [1, 2] S1
      (shapeCast S1x512x512 v shapeCasts_S512x512_S1x512x512) 0x00000000#32 reduces_S1x512x512_S1 (.inl rfl) rfl)
      shapeCasts_S1_S1x1x1) inpos_S1x1x1_p0_0_0 = ∑ j : Fin 512, ∑ j2 : Fin 512, v (ix2 j j2) := by
  unfold extractAt
  refine (shapeCast_apply _ shapeCasts_S1_S1x1x1 _ (ix1 0) rfl).trans ?_
  refine (Ideal.multiReduction_add_total _ 0x00000000#32 reduces_S1x512x512_S1 (fun b => by match b with | ⟨0, _⟩ => rfl)
    (.inl rfl) rfl _).trans ?_
  unfold shapeCast
  rw [Equiv.sum_comp (Shape.reshapeEquiv _) v, sum_idx2]

/-- The kernel's value at a place of the plane. -/
def place (j j2 : Fin 512) : EReal :=
  Pixel.kpix c1 c2 (conv K S 0 (by omega) j j2) (conv K S 512 (by omega) j j2) (conv K S 1024 (by omega) j j2)
    (conv K S 1536 (by omega) j j2)

/-- The plane's sum as the first plane computes it: all places, less the 10140 padding places. -/
theorem sum_apply :
    k0_pay21 (F := Ideal) (k0_pay11 K S) (k0_pay14 K S) (k0_pay15 K S) (k0_pay17 K S) (k0_pay18 K S) (k0_pay19 K S)
      (k0_pay20 K S) = (∑ j : Fin 512, ∑ j2 : Fin 512, place K S j j2) - ((10140 : ℝ) : EReal) := by
  have hp : ∀ j j2 : Fin 512, divf (mulf (addf (subf (k0_pay20 (F := Ideal) K S) (k0_pay14 K S)) (k0_pay19 K S)) (k0_pay17 K S))
      (mulf (addf (subf (mulf (broadcast S512x512 (Scalar.ofBits .bf16 0x4280#16)) (k0_pay11 K S)) (k0_pay15 K S))
        (k0_pay19 K S)) (k0_pay18 K S)) (ix2 j j2) = place K S j j2 := by
    intro j j2
    rw [place, Pixel.kpix, ← w_eighth, ← w_center, ← w_64, ← w_zero, ← n_lum, ← n_cs,
      ← conv_apply K S 0 (by omega) slices_S2048x512_o0_0_S512x512,
      ← conv_apply K S 512 (by omega) slices_S2048x512_o512_0_S512x512,
      ← conv_apply K S 1024 (by omega) slices_S2048x512_o1024_0_S512x512,
      ← conv_apply K S 1536 (by omega) slices_S2048x512_o1536_0_S512x512]
    rfl
  exact congrArg₂ (· - ·) ((plane_sum _).trans (Finset.sum_congr rfl fun j _ => Finset.sum_congr rfl fun j2 _ => hp j j2)) w_pad

end Cert.Plane

end
-- ==== Proof.Block.lean ====
/-
  What the kernel's body stores, as a function of the blocks it loads: the scratch buffer's four quarters are the
  half sum, half difference, scaled squares and scaled product of the shifted planes, and the block written is the
  three planes' sums, added.
-/
module

public import proofs.«01_k».proof.Proof.Gen.KernelIdeal.Frame
public import proofs.«01_k».proof.Proof.Plane
public import Idealize.ShloMosaic.Lib.Pipeline.ValueKit.Basic

@[expose] public section

set_option maxRecDepth 16384

noncomputable section

namespace Cert.Block

open Idealize.ShloMosaic Idealize.ShloMosaic.ValueIdx Idealize.ShloMosaic.TcCoe Idealize.ShloMosaic.Tactic
open Cert.KernelIdeal Cert.KernelIdeal.Gen Cert.Plane

/-! ## The scratch buffer -/

section Scratch
variable {kd : Kind} {sp : Space} (v : View sig kd sp S512x2048 .fp8e4m3)
  (p0 p1 p2 p3 : S512x512.Idx → EReal) (L : List (View.Piece (Elt Ideal) S512x2048 .fp8e4m3)) (r c : Fin 512)

/-- The scratch buffer after its four quarters are stored. -/
def scr : Vec Ideal S512x2048 .fp8e4m3 :=
  v.readCov (⟨Rect.unit ![0, 1536] S512x512.size inb_S512x2048_S512x512_0_1536, p3⟩
    :: ⟨Rect.unit ![0, 1024] S512x512.size inb_S512x2048_S512x512_0_1024, p2⟩
    :: ⟨Rect.unit ![0, 512] S512x512.size inb_S512x2048_S512x512_0_512, p1⟩
    :: ⟨Rect.unit ![0, 0] S512x512.size inb_S512x2048_S512x512_0_0, p0⟩ :: L)
    (Rect.unit ![0, 0] S512x2048.size inb_S512x2048_S512x2048_0_0).toLoadRect

/-- A column left of a stored quarter is off it. -/
theorem off_quarter (o : ℕ) (h : ∀ a, (![0, o] : Fin 2 → ℕ) a + S512x512.size a ≤ S512x2048.size a)
    (y : S512x2048.Idx) (hy : (y 1).val < o) : y ∉ (Rect.unit (s := S512x2048) ![0, o] S512x512.size h).set := by
  intro hm
  have := (Rect.mem_set_unit.1 hm) 1
  exact absurd this.1 (not_le.2 hy)

/-- The place in the scratch buffer of a quarter's entry. -/
theorem quarter_idx (o : ℕ) (ho : o + 512 ≤ 2048)
    (h : ∀ a, (![0, o] : Fin 2 → ℕ) a + S512x512.size a ≤ S512x2048.size a) :
    (Rect.unit (s := S512x2048) ![0, 0] S512x2048.size inb_S512x2048_S512x2048_0_0).toLoadRect.idx
      (ix2 r ⟨o + c.val, by omega⟩) = (Rect.unit (s := S512x2048) ![0, o] S512x512.size h).emb (ix2 r c) := by
  funext a; apply Fin.ext
  match a with
  | ⟨0, _⟩ => rfl
  | ⟨1, _⟩ => show 0 + 1 * (o + c.val) = o + 1 * c.val; omega

/-- The first quarter. -/
theorem scr0 : scr v p0 p1 p2 p3 L (ix2 r ⟨0 + c.val, by omega⟩) = p0 (ix2 r c) := by
  unfold scr; rw [View.readCov_eq_canon']
  show View.canon _ _ = _
  rw [quarter_idx r c 0 (by omega) inb_S512x2048_S512x512_0_0]
  rw [View.canon_cons_of_not_mem, View.canon_cons_of_not_mem, View.canon_cons_of_not_mem]
  · exact View.canon_cons_emb _ _ _ _
  all_goals exact off_quarter _ (by decide) _ (by show 0 + 1 * c.val < _; omega)

/-- The second quarter. -/
theorem scr1 : scr v p0 p1 p2 p3 L (ix2 r ⟨512 + c.val, by omega⟩) = p1 (ix2 r c) := by
  unfold scr; rw [View.readCov_eq_canon']
  show View.canon _ _ = _
  rw [quarter_idx r c 512 (by omega) inb_S512x2048_S512x512_0_512]
  rw [View.canon_cons_of_not_mem, View.canon_cons_of_not_mem]
  · exact View.canon_cons_emb _ _ _ _
  all_goals exact off_quarter _ (by decide) _ (by show 512 + 1 * c.val < _; omega)

/-- The third quarter. -/
theorem scr2 : scr v p0 p1 p2 p3 L (ix2 r ⟨1024 + c.val, by omega⟩) = p2 (ix2 r c) := by
  unfold scr; rw [View.readCov_eq_canon']
  show View.canon _ _ = _
  rw [quarter_idx r c 1024 (by omega) inb_S512x2048_S512x512_0_1024]
  rw [View.canon_cons_of_not_mem]
  · exact View.canon_cons_emb _ _ _ _
  all_goals exact off_quarter _ (by decide) _ (by show 1024 + 1 * c.val < _; omega)

/-- The fourth quarter. -/
theorem scr3 : scr v p0 p1 p2 p3 L (ix2 r ⟨1536 + c.val, by omega⟩) = p3 (ix2 r c) := by
  unfold scr; rw [View.readCov_eq_canon']
  show View.canon _ _ = _
  rw [quarter_idx r c 1536 (by omega) inb_S512x2048_S512x512_0_1536]
  exact View.canon_cons_emb _ _ _ _

end Scratch

/-! ## One plane's sum -/

/-- The two filter passes over a plane. -/
def pass (K p : Fin 512 → Fin 512 → EReal) (j j2 : Fin 512) : EReal :=
  ∑ c : Fin 512, (∑ r : Fin 512, p r c * K r j) * K c j2

/-- The half sum of two planes, shifted by 127.5. -/
def halfP (x y : Fin 512 → Fin 512 → EReal) (r c : Fin 512) : EReal :=
  ((x r c - ((255 / 2 : ℝ) : EReal)) + (y r c - ((255 / 2 : ℝ) : EReal))) * ((1 / 2 : ℝ) : EReal)
/-- The half difference of two planes, shifted by 127.5. -/
def diffP (x y : Fin 512 → Fin 512 → EReal) (r c : Fin 512) : EReal :=
  ((x r c - ((255 / 2 : ℝ) : EReal)) - (y r c - ((255 / 2 : ℝ) : EReal))) * ((1 / 2 : ℝ) : EReal)
/-- The squares of two shifted planes, added and scaled. -/
def sqsP (x y : Fin 512 → Fin 512 → EReal) (r c : Fin 512) : EReal :=
  ((x r c - ((255 / 2 : ℝ) : EReal)) * (x r c - ((255 / 2 : ℝ) : EReal))
    + (y r c - ((255 / 2 : ℝ) : EReal)) * (y r c - ((255 / 2 : ℝ) : EReal))) * ((1 / 256 : ℝ) : EReal)
/-- The scaled product of two shifted planes. -/
def prodP (x y : Fin 512 → Fin 512 → EReal) (r c : Fin 512) : EReal :=
  ((x r c - ((255 / 2 : ℝ) : EReal)) * (y r c - ((255 / 2 : ℝ) : EReal))) * ((1 / 128 : ℝ) : EReal)

/-- The kernel's value at a place of two planes, under the filter matrix `K`. -/
def pixelP (K x y : Fin 512 → Fin 512 → EReal) (j j2 : Fin 512) : EReal :=
  Pixel.kpix c1 c2 (pass K (halfP x y) j j2) (pass K (diffP x y) j j2) (pass K (sqsP x y) j j2) (pass K (prodP x y) j j2)

/-- The kernel's sum over two planes, less the padding. -/
def planeP (K x y : Fin 512 → Fin 512 → EReal) : EReal :=
  (∑ j : Fin 512, ∑ j2 : Fin 512, pixelP K x y j j2) - ((10140 : ℝ) : EReal)

section PlaneSum
variable {kd : Kind} {sp : Space} (v : View sig kd sp S512x2048 .fp8e4m3) (K : Vec Ideal S512x512 .fp8e4m3)
  (x y : Vec Ideal S1x1x512x512 .f32) (L : List (View.Piece (Elt Ideal) S512x2048 .fp8e4m3))

/-- A loaded plane by its two coordinates. -/
def pl (x : Vec Ideal S1x1x512x512 .f32) (r c : Fin 512) : EReal := x (ix4 0 0 r c)
/-- A loaded matrix by its two coordinates. -/
def mt (K : Vec Ideal S512x512 .fp8e4m3) (r c : Fin 512) : EReal := K (ix2 r c)

/-- A loaded plane, cast to two axes and shifted. -/
theorem shift_apply (r c : Fin 512) : k0_pay3 (F := Ideal) x (ix2 r c) = pl x r c - ((255 / 2 : ℝ) : EReal) := by
  refine congrArg₂ (· - ·) (shapeCast_apply x shapeCasts_S1x1x512x512_S512x512 (ix2 r c) (ix4 0 0 r c) ?_) w_center
  rw [Shape.rowMajor_val_four, Shape.rowMajor_val_two]
  show ((0 * 1 + 0) * 512 + r.val) * 512 + c.val = r.val * 512 + c.val
  omega

/-- The scratch buffer of the planes `x` and `y`. -/
def scrP : Vec Ideal S512x2048 .fp8e4m3 :=
  scr v (k0_pay5 x y) (k0_pay6 x y) (k0_pay7 x y) (k0_pay8 (k0_pay3 x) (k0_pay4 y)) L

/-- The plane's sum in the planes' entries. -/
theorem sum_eq : k0_pay21 (F := Ideal) (k0_pay11 K (scrP v x y L)) (k0_pay14 K (scrP v x y L)) (k0_pay15 K (scrP v x y L))
    (k0_pay17 K (scrP v x y L)) (k0_pay18 K (scrP v x y L)) (k0_pay19 K (scrP v x y L)) (k0_pay20 K (scrP v x y L))
    = planeP (mt K) (pl x) (pl y) := by
  have h0 : ∀ r c : Fin 512, k0_pay5 (F := Ideal) x y (ix2 r c) = halfP (pl x) (pl y) r c := fun r c => by
    unfold k0_pay5; rw [shapeCast_self]
    exact congrArg₂ (· * ·) (congrArg₂ (· + ·) (shift_apply x r c) (shift_apply y r c)) w_half
  have h1 : ∀ r c : Fin 512, k0_pay6 (F := Ideal) x y (ix2 r c) = diffP (pl x) (pl y) r c := fun r c => by
    unfold k0_pay6; rw [shapeCast_self]
    exact congrArg₂ (· * ·) (congrArg₂ (· - ·) (shift_apply x r c) (shift_apply y r c)) w_half
  have h2 : ∀ r c : Fin 512, k0_pay7 (F := Ideal) x y (ix2 r c) = sqsP (pl x) (pl y) r c := fun r c => by
    unfold k0_pay7; rw [shapeCast_self]
    exact congrArg₂ (· * ·) (congrArg₂ (· + ·) (congrArg₂ (· * ·) (shift_apply x r c) (shift_apply x r c))
      (congrArg₂ (· * ·) (shift_apply y r c) (shift_apply y r c))) w_256
  have h3 : ∀ r c : Fin 512, k0_pay8 (F := Ideal) (k0_pay3 x) (k0_pay4 y) (ix2 r c) = prodP (pl x) (pl y) r c := fun r c => by
    unfold k0_pay8; rw [shapeCast_self]
    exact congrArg₂ (· * ·) (congrArg₂ (· * ·) (shift_apply x r c) (shift_apply y r c)) w_128
  rw [sum_apply]
  unfold planeP place pixelP conv pass scrP
  simp only [scr0, scr1, scr2, scr3, h0, h1, h2, h3]
  rfl

/-- The second plane's sum is the first's computation, added to the first's result. -/
theorem second_eq (a : EReal) (S : Vec Ideal S512x2048 .fp8e4m3) :
    k0_pay37 (F := Ideal) a (k0_pay29 K S) (k0_pay30 K S) (k0_pay31 K S) (k0_pay34 K S) (k0_pay35 K S) (k0_pay36 K S)
      (Named.named κ "k_lum" (φ := .bf16) 0x46FE#16)
    = a + k0_pay21 (F := Ideal) (k0_pay11 K S) (k0_pay14 K S) (k0_pay15 K S) (k0_pay17 K S) (k0_pay18 K S) (k0_pay19 K S)
      (k0_pay20 K S) := rfl

/-- The third plane's sum likewise, spread over the output block. -/
theorem third_eq (a : EReal) (S : Vec Ideal S512x2048 .fp8e4m3) :
    k0_pay1 (F := Ideal) a (k0_pay46 K S) (k0_pay47 K S) (k0_pay48 K S) (k0_pay49 K S)
    = fun _ => a + k0_pay21 (F := Ideal) (k0_pay11 K S) (k0_pay14 K S) (k0_pay15 K S) (k0_pay17 K S) (k0_pay18 K S)
      (k0_pay19 K S) (k0_pay20 K S) := rfl

/-- The second plane's scratch buffer is the first's computation on its own planes. -/
theorem scr_second : scr v (k0_pay24 (F := Ideal) x y) (k0_pay25 x y) (k0_pay26 (k0_pay22 x) (k0_pay23 y))
    (k0_pay27 (k0_pay22 x) (k0_pay23 y)) L = scrP v x y L := rfl

/-- The third plane's scratch buffer likewise. -/
theorem scr_third : scr v (k0_pay41 (k0_pay40 (F := Ideal) x y)) (k0_pay42 (k0_pay38 x) (k0_pay39 y))
    (k0_pay43 (k0_pay38 x) (k0_pay39 y)) (k0_pay44 (k0_pay38 x) (k0_pay39 y)) L = scrP v x y L := rfl

/-- What the body's one store leaves, from its loads. -/
theorem stored_eq (K0 : Vec Ideal S512x512 .fp8e4m3) (x0 y0 x1 y1 x2 y2 : Vec Ideal S1x1x512x512 .f32)
    (L0 L1 L2 : List (View.Piece (Elt Ideal) S512x2048 .fp8e4m3)) :
    View.canon (Val := Elt Ideal) (e := .f32) [⟨Rect.unit (s := S1x1x128) ![0, 0, 0] S1x1x128.size inb_S1x1x128_S1x1x128_0_0_0,
      k0_pay1 (F := Ideal) (k0_pay37 (k0_pay21

          (k0_pay11 (k0_pay2 K0) (scr v (k0_pay5 x0 y0) (k0_pay6 x0 y0) (k0_pay7 x0 y0) (k0_pay8 (k0_pay3 x0) (k0_pay4 y0)) L0))
          (k0_pay14 (k0_pay2 K0) (scr v (k0_pay5 x0 y0) (k0_pay6 x0 y0) (k0_pay7 x0 y0) (k0_pay8 (k0_pay3 x0) (k0_pay4 y0)) L0))
          (k0_pay15 (k0_pay2 K0) (scr v (k0_pay5 x0 y0) (k0_pay6 x0 y0) (k0_pay7 x0 y0) (k0_pay8 (k0_pay3 x0) (k0_pay4 y0)) L0))
          (k0_pay17 (k0_pay2 K0) (scr v (k0_pay5 x0 y0) (k0_pay6 x0 y0) (k0_pay7 x0 y0) (k0_pay8 (k0_pay3 x0) (k0_pay4 y0)) L0))
          (k0_pay18 (k0_pay2 K0) (scr v (k0_pay5 x0 y0) (k0_pay6 x0 y0) (k0_pay7 x0 y0) (k0_pay8 (k0_pay3 x0) (k0_pay4 y0)) L0))
          (k0_pay19 (k0_pay2 K0) (scr v (k0_pay5 x0 y0) (k0_pay6 x0 y0) (k0_pay7 x0 y0) (k0_pay8 (k0_pay3 x0) (k0_pay4 y0)) L0))
          (k0_pay20 (k0_pay2 K0) (scr v (k0_pay5 x0 y0) (k0_pay6 x0 y0) (k0_pay7 x0 y0) (k0_pay8 (k0_pay3 x0) (k0_pay4 y0)) L0)))

        (k0_pay29 (k0_pay2 K0) (scr v (k0_pay24 x1 y1) (k0_pay25 x1 y1) (k0_pay26 (k0_pay22 x1) (k0_pay23 y1)) (k0_pay27 (k0_pay22 x1) (k0_pay23 y1)) L1))
        (k0_pay30 (k0_pay2 K0) (scr v (k0_pay24 x1 y1) (k0_pay25 x1 y1) (k0_pay26 (k0_pay22 x1) (k0_pay23 y1)) (k0_pay27 (k0_pay22 x1) (k0_pay23 y1)) L1))
        (k0_pay31 (k0_pay2 K0) (scr v (k0_pay24 x1 y1) (k0_pay25 x1 y1) (k0_pay26 (k0_pay22 x1) (k0_pay23 y1)) (k0_pay27 (k0_pay22 x1) (k0_pay23 y1)) L1))
        (k0_pay34 (k0_pay2 K0) (scr v (k0_pay24 x1 y1) (k0_pay25 x1 y1) (k0_pay26 (k0_pay22 x1) (k0_pay23 y1)) (k0_pay27 (k0_pay22 x1) (k0_pay23 y1)) L1))
        (k0_pay35 (k0_pay2 K0) (scr v (k0_pay24 x1 y1) (k0_pay25 x1 y1) (k0_pay26 (k0_pay22 x1) (k0_pay23 y1)) (k0_pay27 (k0_pay22 x1) (k0_pay23 y1)) L1))
        (k0_pay36 (k0_pay2 K0) (scr v (k0_pay24 x1 y1) (k0_pay25 x1 y1) (k0_pay26 (k0_pay22 x1) (k0_pay23 y1)) (k0_pay27 (k0_pay22 x1) (k0_pay23 y1)) L1)) (Named.named κ "k_lum" (φ := .bf16) 0x46FE#16))

      (k0_pay46 (k0_pay2 K0) (scr v (k0_pay41 (k0_pay40 x2 y2)) (k0_pay42 (k0_pay38 x2) (k0_pay39 y2)) (k0_pay43 (k0_pay38 x2) (k0_pay39 y2)) (k0_pay44 (k0_pay38 x2) (k0_pay39 y2)) L2))
      (k0_pay47 (k0_pay2 K0) (scr v (k0_pay41 (k0_pay40 x2 y2)) (k0_pay42 (k0_pay38 x2) (k0_pay39 y2)) (k0_pay43 (k0_pay38 x2) (k0_pay39 y2)) (k0_pay44 (k0_pay38 x2) (k0_pay39 y2)) L2))
      (k0_pay48 (k0_pay2 K0) (scr v (k0_pay41 (k0_pay40 x2 y2)) (k0_pay42 (k0_pay38 x2) (k0_pay39 y2)) (k0_pay43 (k0_pay38 x2) (k0_pay39 y2)) (k0_pay44 (k0_pay38 x2) (k0_pay39 y2)) L2))
      (k0_pay49 (k0_pay2 K0) (scr v (k0_pay41 (k0_pay40 x2 y2)) (k0_pay42 (k0_pay38 x2) (k0_pay39 y2)) (k0_pay43 (k0_pay38 x2) (k0_pay39 y2)) (k0_pay44 (k0_pay38 x2) (k0_pay39 y2)) L2))⟩]
    = fun _ => planeP (mt K0) (pl x0) (pl y0) + planeP (mt K0) (pl x1) (pl y1) + planeP (mt K0) (pl x2) (pl y2) := by
  have hK : k0_pay2 (F := Ideal) K0 = K0 := shapeCast_self K0 _
  rw [View.canon_cons_unit_lit _ _ _ (by decide), hK, third_eq, second_eq, scr_second, scr_third,
    sum_eq, sum_eq]
  exact funext fun _ => congrArg (· + _ + _) (sum_eq v K0 x0 y0 L0)

end PlaneSum

/-! ## The block the body writes -/

variable (m : (ℓ : Loc nD τ sig) → Buf (Elt Ideal) ℓ)

/-- One plane of an image block. -/
def plane (X : Vec Ideal S1x3x512x512 .f32) (p : Fin 3) (r c : Fin 512) : EReal := X (ix4 0 p r c)

/-- A load of one plane of an image block, at an entry. -/
theorem ld_plane (X : Vec Ideal S1x3x512x512 .f32) (p : Fin 3)
    (h : ∀ a, (![0, p.val, 0, 0] : Fin 4 → ℕ) a + S1x1x512x512.size a ≤ S1x3x512x512.size a) :
    pl (View.ld X (Rect.unit (s := S1x3x512x512) ![0, p.val, 0, 0] S1x1x512x512.size h)) = plane X p := by
  funext r c
  refine congrArg X (funext fun a => Fin.ext ?_)
  match a with
  | ⟨0, _⟩ => rfl
  | ⟨1, _⟩ => rfl
  | ⟨2, _⟩ => show 0 + 1 * r.val = r.val; omega
  | ⟨3, _⟩ => show 0 + 1 * c.val = c.val; omega

/-- The block the body writes at a grid point: everywhere the three planes' sums, added. -/
theorem outs_eq (c : Dev nD) (t : Fin cfg0.N) : outsAt0 m c t = fun _ =>
    planeP (mt (iblk m c 2 t)) (plane (iblk m c 0 t) 0) (plane (iblk m c 1 t) 0)
    + planeP (mt (iblk m c 2 t)) (plane (iblk m c 0 t) 1) (plane (iblk m c 1 t) 1)
    + planeP (mt (iblk m c 2 t)) (plane (iblk m c 0 t) 2) (plane (iblk m c 1 t) 2) := by
  unfold outsAt0 out0_A_3
  rw [View.read_writes_eq_canon _ _ _ (cover0_A_3 c _ _ _ _ _ _ _ _ _ _ _ _ _ _)]
  unfold kernelRun0_A
  dsimp only
  sl_unfold_words
  refine (stored_eq scM0_0.view _ _ _ _ _ _ _ _ _ _).trans ?_
  simp only [View.readAt_eq_ld, (hs0_0 t).read_unread, (hs0_1 t).read_unread, (hs0_2 t).read_unread]
  have h0 : ∀ X : Vec Ideal S1x3x512x512 .f32, pl (View.ld X (Rect.unit (s := S1x3x512x512) ![0, 0, 0, 0]
      S1x1x512x512.size inb_S1x3x512x512_S1x1x512x512_0_0_0_0)) = plane X 0 := fun X => ld_plane X 0 _
  have h1 : ∀ X : Vec Ideal S1x3x512x512 .f32, pl (View.ld X (Rect.unit (s := S1x3x512x512) ![0, 1, 0, 0]
      S1x1x512x512.size inb_S1x3x512x512_S1x1x512x512_0_1_0_0)) = plane X 1 := fun X => ld_plane X 1 _
  have h2 : ∀ X : Vec Ideal S1x3x512x512 .f32, pl (View.ld X (Rect.unit (s := S1x3x512x512) ![0, 2, 0, 0]
      S1x1x512x512.size inb_S1x3x512x512_S1x1x512x512_0_2_0_0)) = plane X 2 := fun X => ld_plane X 2 _
  rw [View.ld_unit_lit _ _ (by decide)]
  simp only [h0, h1, h2]

end Cert.Block

end
-- ==== Proof.Filter.lean ====
/-
  The filter matrix turns the two products over 512 entries into the eleven-tap window, and the places without a full
  window add exactly one each: the kernel's sum over a plane is the reference's sum over the places that have a window.
-/
module

public import proofs.«01_k».proof.Proof.Block

@[expose] public section

set_option maxRecDepth 16384

noncomputable section

namespace Cert.Filter

open Idealize.ShloMosaic Cert.Plane Cert.Block

/-- The taps of the window: a Gaussian of deviation 1.5, rounded to ten-thousandths. -/
def tap : Fin 11 → ℝ :=
  ![10 / 10000, 76 / 10000, 360 / 10000, 1094 / 10000, 2130 / 10000, 2660 / 10000, 2130 / 10000, 1094 / 10000,
    360 / 10000, 76 / 10000, 10 / 10000]

/-- Every tap is positive. -/
theorem tap_pos (t : Fin 11) : 0 < tap t := by
  fin_cases t <;> norm_num [tap]

/-- The taps add to one. -/
theorem tap_sum : ∑ t, tap t = 1 := by
  simp only [Fin.sum_univ_succ, Fin.sum_univ_zero, tap, Matrix.cons_val_zero, Matrix.cons_val_succ]; norm_num

/-- A matrix is the filter's band: column `j` below 502 holds the doubled taps from row `j` on, and all else is zero. -/
def Band (K : Fin 512 → Fin 512 → EReal) : Prop :=
  (∀ (j : Fin 502) (t : Fin 11), K ⟨j.val + t.val, by omega⟩ ⟨j.val, by omega⟩ = ((2 * tap t : ℝ) : EReal))
    ∧ ∀ r j : Fin 512, (502 ≤ j.val ∨ r.val < j.val ∨ j.val + 10 < r.val) → K r j = 0

variable {K : Fin 512 → Fin 512 → EReal} (hK : Band K)

include hK in
/-- A sum against a column of the band is the sum against the taps. -/
theorem band_sum (f : Fin 512 → EReal) (j : Fin 502) :
    ∑ r, f r * K r ⟨j.val, by omega⟩ = ∑ t : Fin 11, f ⟨j.val + t.val, by omega⟩ * ((2 * tap t : ℝ) : EReal) := by
  have hz : ∀ r : Fin 512, r ∉ Finset.univ.image (fun t : Fin 11 => (⟨j.val + t.val, by omega⟩ : Fin 512)) →
      f r * K r ⟨j.val, by omega⟩ = 0 := by
    intro r hr
    rw [hK.2 r ⟨j.val, by omega⟩ ?_, mul_zero]
    by_contra hc
    push Not at hc
    refine hr (Finset.mem_image.2 ⟨⟨r.val - j.val, ?_⟩, Finset.mem_univ _, Fin.ext ?_⟩)
    · have := hc.2.2; simp only at this; omega
    · have := hc.2.1; simp only at this ⊢; omega
  rw [← Finset.sum_subset (Finset.subset_univ _) fun r _ hr => hz r hr, Finset.sum_image]
  · exact Finset.sum_congr rfl fun t _ => by rw [hK.1 j t]
  · intro a _ b _ h
    have := congrArg Fin.val h
    simp only at this
    exact Fin.ext (by omega)

include hK in
/-- A sum against a column past the last window is zero. -/
theorem band_zero (f : Fin 512 → EReal) (j : Fin 512) (hj : 502 ≤ j.val) : ∑ r, f r * K r j = 0 :=
  Finset.sum_eq_zero fun r _ => by rw [hK.2 r j (.inl hj), mul_zero]

/-- The window of a plane at a place. -/
def win (x : Fin 512 → Fin 512 → EReal) (a b : Fin 502) : Pixel.Win :=
  fun t s => x ⟨a.val + t.val, by omega⟩ ⟨b.val + s.val, by omega⟩

include hK in
/-- The two passes at a place that has a window. -/
theorem pass_win (p : Fin 512 → Fin 512 → EReal) (a b : Fin 502) :
    pass K p ⟨a.val, by omega⟩ ⟨b.val, by omega⟩ = Pixel.ksum tap (win p a b) := by
  unfold pass
  rw [band_sum hK]
  exact Finset.sum_congr rfl fun s _ => congrArg (· * _) (band_sum hK _ a)

include hK in
/-- The two passes at a place without a window. -/
theorem pass_pad (p : Fin 512 → Fin 512 → EReal) (j j2 : Fin 512) (h : 502 ≤ j.val ∨ 502 ≤ j2.val) : pass K p j j2 = 0 := by
  unfold pass
  rcases h with h | h
  · exact Finset.sum_eq_zero fun c _ => by rw [band_zero hK _ j h, zero_mul]
  · exact band_zero hK _ j2 h

/-- The pixel value of filtered zeros is one. -/
theorem kpix_zero : Pixel.kpix c1 c2 0 0 0 0 = ((1 : ℝ) : EReal) := by
  have h1 := c1_pos
  have h2 := c2_pos
  have e : (((64 : ℝ) : EReal) * 0 - (((1 / 8 : ℝ) : EReal) * (0 * 0) - ((1 / 8 : ℝ) : EReal) * (0 * 0))
        + (((0 : ℝ) : EReal) * 0 + (c2 : EReal)))
      * ((((1 / 8 : ℝ) : EReal) * (0 * 0) - ((1 / 8 : ℝ) : EReal) * (0 * 0))
        + (((255 / 2 : ℝ) : EReal) * 0 + ((2 * (255 / 2) ^ 2 + c1 : ℝ) : EReal)))
      = ((c2 * (2 * (255 / 2) ^ 2 + c1) : ℝ) : EReal) := by
    simp only [mul_zero, sub_zero, zero_add, EReal.coe_mul]
  unfold Pixel.kpix
  rw [e]
  simp only [mul_zero, sub_zero, zero_add, add_zero]
  rw [← EReal.coe_mul, Pixel.div_real, div_self (by positivity)]
  positivity

/-- The reference's value at a place. -/
def pixelR (x y : Fin 512 → Fin 512 → EReal) (a b : Fin 502) : EReal :=
  Pixel.rpix c1 c2 (Pixel.wsum tap (win x a b)) (Pixel.wsum tap (win y a b))
    (Pixel.wsum tap fun t s => win x a b t s * win x a b t s) (Pixel.wsum tap fun t s => win y a b t s * win y a b t s)
    (Pixel.wsum tap fun t s => win x a b t s * win y a b t s)

include hK in
/-- The kernel's value at a place that has a window is the reference's, and it is real. -/
theorem pixel_win (x y : Fin 512 → Fin 512 → EReal) (a b : Fin 502) :
    ∃ r : ℝ, pixelP K x y ⟨a.val, by omega⟩ ⟨b.val, by omega⟩ = (r : EReal) ∧ pixelR x y a b = (r : EReal) := by
  unfold pixelP
  rw [pass_win hK, pass_win hK, pass_win hK, pass_win hK]
  exact Pixel.pixel tap tap_pos tap_sum c1_pos c2_pos (win x a b) (win y a b)

include hK in
/-- The kernel's value at a place without a window is one. -/
theorem pixel_pad (x y : Fin 512 → Fin 512 → EReal) (j j2 : Fin 512) (h : 502 ≤ j.val ∨ 502 ≤ j2.val) :
    pixelP K x y j j2 = ((1 : ℝ) : EReal) := by
  unfold pixelP
  rw [pass_pad hK _ j j2 h, pass_pad hK _ j j2 h, pass_pad hK _ j j2 h, pass_pad hK _ j j2 h, kpix_zero]

/-- A double sum over 512 by 512 of reals that are one past 502 either way. -/
theorem pad_sum (f : Fin 512 → Fin 512 → ℝ) (h : ∀ j j2, (502 ≤ j.val ∨ 502 ≤ j2.val) → f j j2 = 1) :
    ∑ j, ∑ j2, f j j2 = (∑ a : Fin 502, ∑ b : Fin 502, f ⟨a.val, by omega⟩ ⟨b.val, by omega⟩) + 10140 := by
  have split : ∀ g : Fin 512 → ℝ, ∑ j, g j = (∑ a : Fin 502, g ⟨a.val, by omega⟩) + ∑ a : Fin 10, g ⟨502 + a.val, by omega⟩ :=
    fun g => Fin.sum_univ_add (a := 502) (b := 10) g
  have row : ∀ a : Fin 502, ∑ j2, f ⟨a.val, by omega⟩ j2 = (∑ b : Fin 502, f ⟨a.val, by omega⟩ ⟨b.val, by omega⟩) + 10 := by
    intro a
    have e : ∀ b : Fin 10, f ⟨a.val, by omega⟩ ⟨502 + b.val, by omega⟩ = 1 := fun b => h _ _ (.inr (Nat.le_add_right _ _))
    rw [split, Finset.sum_congr rfl fun b _ => e b]
    simp
  have tail : ∀ a : Fin 10, ∑ j2, f ⟨502 + a.val, by omega⟩ j2 = 512 := by
    intro a
    rw [Finset.sum_congr rfl fun b _ => h _ _ (.inl (Nat.le_add_right _ _))]
    simp
  rw [split, Finset.sum_congr rfl fun a _ => row a, Finset.sum_congr rfl fun a _ => tail a, Finset.sum_add_distrib]
  simp only [Finset.sum_const, Finset.card_univ, Fintype.card_fin, nsmul_eq_mul]
  norm_num
  ring

include hK in
/-- The kernel's sum over a plane is the reference's. -/
theorem plane_eq (x y : Fin 512 → Fin 512 → EReal) :
    planeP K x y = ∑ a : Fin 502, ∑ b : Fin 502, pixelR x y a b := by
  have hr : ∀ j j2 : Fin 512, ∃ r : ℝ, pixelP K x y j j2 = (r : EReal) := by
    intro j j2
    by_cases h : 502 ≤ j.val ∨ 502 ≤ j2.val
    · exact ⟨1, pixel_pad hK x y j j2 h⟩
    · push Not at h
      obtain ⟨r, h1, _⟩ := pixel_win hK x y ⟨j.val, h.1⟩ ⟨j2.val, h.2⟩
      exact ⟨r, h1⟩
  choose f hf using hr
  have h1 : ∀ j j2 : Fin 512, (502 ≤ j.val ∨ 502 ≤ j2.val) → f j j2 = 1 := fun j j2 h =>
    EReal.coe_eq_coe_iff.1 ((hf j j2).symm.trans (pixel_pad hK x y j j2 h))
  have h2 : ∀ a b : Fin 502, pixelR x y a b = (f ⟨a.val, by omega⟩ ⟨b.val, by omega⟩ : EReal) := by
    intro a b
    obtain ⟨r, e1, e2⟩ := pixel_win hK x y a b
    rw [e2, ← e1, hf]
  unfold planeP
  simp only [hf, h2, ← Pixel.coe_sum]
  rw [pad_sum f h1, ← EReal.coe_sub, add_sub_cancel_right]

/-! ## The result -/

/-- One plane of one image of a batch. -/
def img (A : (⟨4, ![16, 3, 512, 512]⟩ : Shape).Idx → EReal) (n : Fin 16) (p : Fin 3) (r c : Fin 512) : EReal :=
  A (ValueIdx.ix4 n p r c)

/-- The sum of the pixel values of one image: over its planes and the places that have a window. -/
def total (A B : (⟨4, ![16, 3, 512, 512]⟩ : Shape).Idx → EReal) (n : Fin 16) : EReal :=
  ∑ p : Fin 3, ∑ a : Fin 502, ∑ b : Fin 502, pixelR (img A n p) (img B n p) a b

/-- The result for two batches of images: for each image, one less the mean of its pixel values. -/
def res (A B : (⟨4, ![16, 3, 512, 512]⟩ : Shape).Idx → EReal) : (⟨1, ![16]⟩ : Shape).Idx → EReal := fun i =>
  Ideal.ofBits .f32 0x3F800000#32 - Ideal.div (total A B (i 0)) (Ideal.ofBits .f32 0x493892C0#32)

end Cert.Filter

end
-- ==== Proof.Matrix.lean ====
/-
  The filter matrix that the host builds before the kernel's region: eleven selections on two coordinate arrays, each
  writing one doubled tap along a diagonal, then a division by ten thousand. It is the filter's band.
-/
module

public import proofs.«01_k».proof.Proof.Filter
public import Idealize.ShloMosaic.Lib.StableHlo.RunRead

@[expose] public section

set_option maxRecDepth 16384

noncomputable section

namespace Cert.Matrix

open Idealize.ShloMosaic Idealize.ShloMosaic.ValueIdx Cert.KernelIdeal Cert.KernelIdeal.Gen Cert.Filter

/-- One selection: the word `w` where the row is the column plus `t` and the column is below 502, else what was there. -/
def sel (t w : BitVec 32) (A : FVec Ideal S512x512 .f32) : FVec Ideal S512x512 .f32 :=
  select (andi (cmpi .eq (iotaInDim S512x512 32 0)
      (addi (iotaInDim S512x512 32 1) (broadcastInDim S512x512 ![] bcast_S_S512x512 (constantI S_ 32 t))))
    (cmpi .slt (iotaInDim S512x512 32 1) (broadcastInDim S512x512 ![] bcast_S_S512x512 (constantI S_ 32 502#32))))
    (broadcastInDim S512x512 ![] bcast_S_S512x512 (constant (F := Ideal) S_ .f32 w)) A

/-- The eleven selections over zero, divided by ten thousand. -/
def band : FVec Ideal S512x512 .fp8e4m3 :=
  Host.convertf .fp8e4m3 (Host.divf (sel 10#32 0x41A00000#32
      (sel 9#32 0x43180000#32
      (sel 8#32 0x44340000#32
      (sel 7#32 0x4508C000#32
      (sel 6#32 0x45852000#32
      (sel 5#32 0x45A64000#32
      (sel 4#32 0x45852000#32
      (sel 3#32 0x4508C000#32
      (sel 2#32 0x44340000#32
      (sel 1#32 0x43180000#32
      (sel 0#32 0x41A00000#32
      (broadcastInDim S512x512 ![] bcast_S_S512x512 (constant (F := Ideal) S_ .f32 0x00000000#32)))))))))))))
    (broadcastInDim S512x512 ![] bcast_S_S512x512 (constant (F := Ideal) S_ .f32 0x461C4000#32)))

/-- The region finds the matrix buffer holding the band. -/
theorem V_matrix (m : (ℓ : Loc nD τ sig) → Buf (Elt Ideal) ℓ) (c : Dev nD) : V m c main_v82 = band := by
  unfold V V0
  simp only [List.flatten_cons, List.flatten_nil, List.append_nil, List.cons_append, List.nil_append]
  after_reads_simp
  rfl

/-- The selection's condition on small coordinates. -/
theorem cond_eq (r j t : ℕ) (hr : r < 512) (hj : j < 512) (ht : t < 11) :
    IntOp.andi (IntOp.cmpi .eq (BitVec.ofNat 32 r) (IntOp.addi (BitVec.ofNat 32 j) (BitVec.ofNat 32 t)))
      (IntOp.cmpi .slt (BitVec.ofNat 32 j) 502#32) = BitVec.ofBool (decide (r = j + t ∧ j < 502)) := by
  have h1 : (BitVec.ofNat 32 r == BitVec.ofNat 32 j + BitVec.ofNat 32 t) = decide (r = j + t) := by
    rw [← BitVec.ofNat_add, Bool.eq_iff_iff, beq_iff_eq, decide_eq_true_iff, ← BitVec.toNat_inj, BitVec.toNat_ofNat,
      BitVec.toNat_ofNat, Nat.mod_eq_of_lt (by omega), Nat.mod_eq_of_lt (by omega)]
  have h2 : (BitVec.ofNat 32 j).slt 502#32 = decide (j < 502) := by
    rw [BitVec.slt_eq_decide, BitVec.toInt_eq_toNat_of_lt (by rw [BitVec.toNat_ofNat]; omega),
      BitVec.toNat_ofNat, Nat.mod_eq_of_lt (by omega)]
    show decide ((j : ℤ) < 502) = _
    rw [Bool.eq_iff_iff, decide_eq_true_iff, decide_eq_true_iff]; omega
  show BitVec.ofBool (BitVec.ofNat 32 r == BitVec.ofNat 32 j + BitVec.ofNat 32 t)
    &&& BitVec.ofBool ((BitVec.ofNat 32 j).slt 502#32) = _
  rw [h1, h2]
  by_cases a : r = j + t <;> by_cases b : j < 502 <;> simp [a, b]

/-- A selection at an index. -/
theorem sel_apply (t : ℕ) (ht : t < 11) (w : BitVec 32) (A : FVec Ideal S512x512 .f32) (r j : Fin 512) :
    sel (BitVec.ofNat 32 t) w A (ix2 r j) = if r.val = j.val + t ∧ j.val < 502 then Ideal.ofBits .f32 w else A (ix2 r j) := by
  show Scalar.select (IntOp.andi (IntOp.cmpi .eq (BitVec.ofNat 32 r.val)
    (IntOp.addi (BitVec.ofNat 32 j.val) (BitVec.ofNat 32 t))) (IntOp.cmpi .slt (BitVec.ofNat 32 j.val) 502#32))
    (Ideal.ofBits .f32 w) (A (ix2 r j)) = _
  rw [cond_eq r.val j.val t r.isLt j.isLt ht]
  by_cases h : r.val = j.val + t ∧ j.val < 502
  · rw [if_pos h, decide_eq_true h]; rfl
  · rw [if_neg h, decide_eq_false h]; rfl

/-- The word of ten thousand. -/
theorem w_den : Ideal.ofBits .f32 0x461C4000#32 = ((10000 : ℝ) : EReal) := by
  simp [Ideal.ofBits, Ideal.ieee, -EReal.coe_mul]; norm_num
/-- The word of 20. -/
theorem w_20 : Ideal.ofBits .f32 0x41A00000#32 = ((20 : ℝ) : EReal) := by
  simp [Ideal.ofBits, Ideal.ieee, -EReal.coe_mul]; norm_num
/-- The word of 152. -/
theorem w_152 : Ideal.ofBits .f32 0x43180000#32 = ((152 : ℝ) : EReal) := by
  simp [Ideal.ofBits, Ideal.ieee, -EReal.coe_mul]; norm_num
/-- The word of 720. -/
theorem w_720 : Ideal.ofBits .f32 0x44340000#32 = ((720 : ℝ) : EReal) := by
  simp [Ideal.ofBits, Ideal.ieee, -EReal.coe_mul]; norm_num
/-- The word of 2188. -/
theorem w_2188 : Ideal.ofBits .f32 0x4508C000#32 = ((2188 : ℝ) : EReal) := by
  simp [Ideal.ofBits, Ideal.ieee, -EReal.coe_mul]; norm_num
/-- The word of 4260. -/
theorem w_4260 : Ideal.ofBits .f32 0x45852000#32 = ((4260 : ℝ) : EReal) := by
  simp [Ideal.ofBits, Ideal.ieee, -EReal.coe_mul]; norm_num
/-- The word of 5320. -/
theorem w_5320 : Ideal.ofBits .f32 0x45A64000#32 = ((5320 : ℝ) : EReal) := by
  simp [Ideal.ofBits, Ideal.ieee, -EReal.coe_mul]; norm_num

/-- The band's entries, one selection inside the other. -/
theorem band_apply (r j : Fin 512) : band (ix2 r j) = Ideal.div (
    if r.val = j.val + 10 ∧ j.val < 502 then ((20 : ℝ) : EReal) else
    if r.val = j.val + 9 ∧ j.val < 502 then ((152 : ℝ) : EReal) else
    if r.val = j.val + 8 ∧ j.val < 502 then ((720 : ℝ) : EReal) else
    if r.val = j.val + 7 ∧ j.val < 502 then ((2188 : ℝ) : EReal) else
    if r.val = j.val + 6 ∧ j.val < 502 then ((4260 : ℝ) : EReal) else
    if r.val = j.val + 5 ∧ j.val < 502 then ((5320 : ℝ) : EReal) else
    if r.val = j.val + 4 ∧ j.val < 502 then ((4260 : ℝ) : EReal) else
    if r.val = j.val + 3 ∧ j.val < 502 then ((2188 : ℝ) : EReal) else
    if r.val = j.val + 2 ∧ j.val < 502 then ((720 : ℝ) : EReal) else
    if r.val = j.val + 1 ∧ j.val < 502 then ((152 : ℝ) : EReal) else
    if r.val = j.val + 0 ∧ j.val < 502 then ((20 : ℝ) : EReal) else
    ((0 : ℝ) : EReal)) ((10000 : ℝ) : EReal) := by
  refine congrArg₂ Ideal.div ?_ w_den
  refine (sel_apply 10 (by omega) _ _ r j).trans ?_; rw [w_20]; refine congrArg (ite _ _) ?_
  refine (sel_apply 9 (by omega) _ _ r j).trans ?_; rw [w_152]; refine congrArg (ite _ _) ?_
  refine (sel_apply 8 (by omega) _ _ r j).trans ?_; rw [w_720]; refine congrArg (ite _ _) ?_
  refine (sel_apply 7 (by omega) _ _ r j).trans ?_; rw [w_2188]; refine congrArg (ite _ _) ?_
  refine (sel_apply 6 (by omega) _ _ r j).trans ?_; rw [w_4260]; refine congrArg (ite _ _) ?_
  refine (sel_apply 5 (by omega) _ _ r j).trans ?_; rw [w_5320]; refine congrArg (ite _ _) ?_
  refine (sel_apply 4 (by omega) _ _ r j).trans ?_; rw [w_4260]; refine congrArg (ite _ _) ?_
  refine (sel_apply 3 (by omega) _ _ r j).trans ?_; rw [w_2188]; refine congrArg (ite _ _) ?_
  refine (sel_apply 2 (by omega) _ _ r j).trans ?_; rw [w_720]; refine congrArg (ite _ _) ?_
  refine (sel_apply 1 (by omega) _ _ r j).trans ?_; rw [w_152]; refine congrArg (ite _ _) ?_
  refine (sel_apply 0 (by omega) _ _ r j).trans ?_; rw [w_20]; refine congrArg (ite _ _) ?_
  exact Ideal.ofBits_zero_f32

/-- The matrix is the filter's band. -/
theorem band_band : Band (Block.mt band) := by
  constructor
  · intro j t
    have hj := j.isLt
    refine (band_apply _ _).trans ?_
    fin_cases t <;> simp only [Nat.add_left_cancel_iff, hj, and_true] <;> norm_num only [if_true, if_false] <;>
      rw [Pixel.div_real _ (by norm_num)] <;> congr 1 <;> simp [tap] <;> norm_num
  · intro r j h
    refine (band_apply _ _).trans ?_
    have hn : ∀ t : ℕ, t < 11 → ¬ (r.val = j.val + t ∧ j.val < 502) := fun t ht => by omega
    iterate 11 rw [if_neg (hn _ (by omega))]
    rw [Pixel.div_real _ (by norm_num), zero_div, EReal.coe_zero]

end Cert.Matrix

end
-- ==== Proof.KernelRun.lean ====
/-
  The kernel's result as a function of the images: each grid point writes its image's sum, and the host operations
  after the region divide it by the number of places and subtract it from one.
-/
module

public import proofs.«01_k».proof.Proof.Matrix
public import Idealize.ShloMosaic.Lib.Pipeline.FrameSuffix

@[expose] public section

set_option maxRecDepth 16384

noncomputable section

namespace Cert.KernelRun

open Idealize.ShloMosaic Idealize.ShloMosaic.ValueIdx Idealize.ShloMosaic.TcCoe
open Idealize.SL Idealize.SL.Sem
open Idealize.ShloMosaic.Pipeline (Dat)
open Cert.KernelIdeal Cert.KernelIdeal.Gen Cert.Filter Cert.Block

variable (m : (ℓ : Loc nD τ sig) → Buf (Elt Ideal) ℓ) (ρ : Dev nD → PrngReg)

/-! ## The blocks a grid point reads -/

/-- The first image's block index at a grid point. -/
theorem index0 : ∀ t : Fin grid0.N, win0_0.index t 0 = t.val ∧ win0_0.index t 1 = 0 ∧ win0_0.index t 2 = 0
    ∧ win0_0.index t 3 = 0 := by decide +kernel
/-- The second image's block index at a grid point. -/
theorem index1 : ∀ t : Fin grid0.N, win0_1.index t 0 = t.val ∧ win0_1.index t 1 = 0 ∧ win0_1.index t 2 = 0
    ∧ win0_1.index t 3 = 0 := by decide +kernel
/-- The matrix's block index at a grid point. -/
theorem index2 : ∀ t : Fin grid0.N, win0_2.index t 0 = 0 ∧ win0_2.index t 1 = 0 := by decide +kernel
/-- The result's block index at a grid point. -/
theorem index3 : ∀ t : Fin grid0.N, win0_3.index t 0 = t.val ∧ win0_3.index t 1 = 0 ∧ win0_3.index t 2 = 0 := by
  decide +kernel

/-- A grid point as an image number. -/
abbrev num (t : Fin cfg0.N) : Fin 16 := t.cast N_0

/-- The first image's plane in the block a grid point reads. -/
theorem plane0 (c : Dev nD) (t : Fin cfg0.N) (p : Fin 3) :
    plane (iblk m c 0 t) p = img (m ((c.tc : Thread nD τ).loc main_arg0)) (num t) p := by
  funext r k
  unfold plane img iblk
  rw [View.read_apply]
  show V m c main_arg0 _ = _
  rw [V_main_arg0]
  refine congrArg (m ((c.tc : Thread nD τ).loc main_arg0)) (funext fun a => Fin.ext ?_)
  match a with
  | ⟨0, _⟩ => show win0_0.index t 0 * 1 + 1 * 0 = t.val; rw [(index0 t).1]; omega
  | ⟨1, _⟩ => show win0_0.index t 1 * 3 + 1 * p.val = p.val; rw [(index0 t).2.1]; omega
  | ⟨2, _⟩ => show win0_0.index t 2 * 512 + 1 * r.val = r.val; rw [(index0 t).2.2.1]; omega
  | ⟨3, _⟩ => show win0_0.index t 3 * 512 + 1 * k.val = k.val; rw [(index0 t).2.2.2]; omega

/-- The second image's plane in the block a grid point reads. -/
theorem plane1 (c : Dev nD) (t : Fin cfg0.N) (p : Fin 3) :
    plane (iblk m c 1 t) p = img (m ((c.tc : Thread nD τ).loc main_arg1)) (num t) p := by
  funext r k
  unfold plane img iblk
  rw [View.read_apply]
  show V m c main_arg1 _ = _
  rw [V_main_arg1]
  refine congrArg (m ((c.tc : Thread nD τ).loc main_arg1)) (funext fun a => Fin.ext ?_)
  match a with
  | ⟨0, _⟩ => show win0_1.index t 0 * 1 + 1 * 0 = t.val; rw [(index1 t).1]; omega
  | ⟨1, _⟩ => show win0_1.index t 1 * 3 + 1 * p.val = p.val; rw [(index1 t).2.1]; omega
  | ⟨2, _⟩ => show win0_1.index t 2 * 512 + 1 * r.val = r.val; rw [(index1 t).2.2.1]; omega
  | ⟨3, _⟩ => show win0_1.index t 3 * 512 + 1 * k.val = k.val; rw [(index1 t).2.2.2]; omega

/-- The matrix in the block a grid point reads. -/
theorem matrix (c : Dev nD) (t : Fin cfg0.N) : Block.mt (iblk m c 2 t) = Block.mt Matrix.band := by
  funext r k
  unfold Block.mt iblk
  rw [View.read_apply]
  show V m c main_v82 _ = _
  rw [Matrix.V_matrix]
  refine congrArg Matrix.band (funext fun a => Fin.ext ?_)
  match a with
  | ⟨0, _⟩ => show win0_2.index t 0 * 512 + 1 * r.val = r.val; rw [(index2 t).1]; omega
  | ⟨1, _⟩ => show win0_2.index t 1 * 512 + 1 * k.val = k.val; rw [(index2 t).2]; omega

/-! ## The array the region writes -/

/-- The block written at a grid point: everywhere its image's sum. -/
theorem outs_total (c : Dev nD) (t : Fin cfg0.N) : outsAt0 m c t = fun _ =>
    total (m ((c.tc : Thread nD τ).loc main_arg0)) (m ((c.tc : Thread nD τ).loc main_arg1)) (num t) := by
  rw [outs_eq]
  simp only [plane0, plane1, matrix, plane_eq Matrix.band_band]
  unfold total
  rw [Fin.sum_univ_three]

/-- The region's array: every lane of an image's row holds the image's sum. -/
def G (c : Dev nD) : Buf (Elt Ideal) ((c.tc : Thread nD τ).loc main_v83) := fun i : S16x1x128.Idx =>
  total (m ((c.tc : Thread nD τ).loc main_arg0)) (m ((c.tc : Thread nD τ).loc main_arg1)) (i 0)

/-- The region leaves the array `G`. -/
theorem final (c : Dev nD) : (dats m 0 c).arrAt 3 cfg0.N = G m c := by
  refine Dat.arrAt_eq_of_cover (dats m 0 c) 3 (G m c) (fun t _ => ?_) (fun i => ?_)
  · show (dats m 0 c).after 3 t = _
    rw [after0_3, outs_total]
    funext x
    rw [View.read_apply]
    refine congrArg (total _ _) (Fin.ext ?_)
    show t.val = win0_3.index t 0 * 1 + 1 * (x 0).val
    have : (x 0).val < 1 := (x 0).isLt
    rw [(index3 t).1]; omega
  · refine ⟨Fin.cast N_0.symm (i 0), flush0_3 _, ?_⟩
    show i ∈ ((View.whole main_v83).slice (win0_3.rect (Fin.cast N_0.symm (i 0)))).set
    rw [View.set_slice_whole, Rect.mem_set_unit]
    intro a
    have h0 : (i 0).val < 16 := (i 0).isLt
    have h1 : (i 1).val < 1 := (i 1).isLt
    have h2 : (i 2).val < 128 := (i 2).isLt
    match a with
    | ⟨0, _⟩ =>
      show win0_3.index (Fin.cast N_0.symm (i 0)) 0 * 1 ≤ (i 0).val ∧ (i 0).val < win0_3.index (Fin.cast N_0.symm (i 0)) 0 * 1 + 1
      rw [(index3 _).1]; show (i 0).val * 1 ≤ (i 0).val ∧ (i 0).val < (i 0).val * 1 + 1; omega
    | ⟨1, _⟩ =>
      show win0_3.index (Fin.cast N_0.symm (i 0)) 1 * 1 ≤ (i 1).val ∧ (i 1).val < win0_3.index (Fin.cast N_0.symm (i 0)) 1 * 1 + 1
      rw [(index3 _).2.1]; omega
    | ⟨2, _⟩ =>
      show win0_3.index (Fin.cast N_0.symm (i 0)) 2 * 128 ≤ (i 2).val ∧ (i 2).val < win0_3.index (Fin.cast N_0.symm (i 0)) 2 * 128 + 128
      rw [(index3 _).2.2]; omega

/-! ## The result -/

/-- The host operations after the region leave the result buffer at `res`. -/
theorem tail_eq (c : Dev nD) : Pipeline.afterTail₀ cfgs (dats m) 0 (V0 m) [hostOps1] c main_v89
    = res (m ((c.tc : Thread nD τ).loc main_arg0)) (m ((c.tc : Thread nD τ).loc main_arg1)) := by
  unfold Pipeline.afterTail₀
  simp only [List.flatten_cons, List.flatten_nil, List.append_nil]
  after_reads_simp
  have e : Pipeline.withArrays (cfgs 0).spec c (V0 m c) (fun w => (dats m 0 c).arrAt w (cfgs 0).N)
      (Proc.tc.devRef main_v83) = G m c :=
    (Pipeline.withArrays_arr spec0 launch0.win.arr_inj c (V0 m c) _ 3).trans (final m c)
  rw [e]
  funext i
  refine congrArg₂ (fun x y : EReal => x - y) rfl (congrArg₂ Ideal.div ?_ rfl)
  show shapeCast S16 (extractStridedSlice S16x1x1 ![0, 0, 0] (G m c) slices_S16x1x128_S16x1x1_0_0_0)
    shapeCasts_S16x1x1_S16 i = total _ _ (i 0)
  rw [shapeCast_apply (s := S16x1x1) (t := S16) _ _ i (ix3 (i 0) 0 0)]
  · rw [extractStridedSlice_apply (s := S16x1x128) (t := S16x1x1) ![0, 0, 0] _ _ _ (ix3 (i 0) 0 0)]
    · rfl
    · intro a
      match a with
      | ⟨0, _⟩ => show (i 0).val = 0 + (i 0).val; omega
      | ⟨1, _⟩ => rfl
      | ⟨2, _⟩ => rfl
  · rw [Shape.rowMajor_val_three, Shape.rowMajor_val_one]
    show ((i 0).val * 1 + 0) * 1 + 0 = (i 0).val
    omega

/-- The kernel leaves its result buffer at `res` of its two batches, and the batches as they were. -/
theorem run : θ_run defs (onTc (τ := τ) (main (F := Idealize.ShloMosaic.Ideal))) ⟨m, fun _ => 0, ρ⟩
    (fun r => ∀ c : Dev nD,
      r.2.mem ((c.tc : Thread nD τ).loc main_v89)
        = res (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨((h.1 c).2 main_v89 (by decide)).trans (tail_eq m c), h.2 c⟩)
    (θ_run_and (run_main m ρ) (unchanged m ρ))

end Cert.KernelRun

end
-- ==== Proof.Patch.lean ====
/-
  The reference's window sums: the gathered patches at an index are the pixels of the window, the weights are products
  of taps, and the sum over the two window axes is the weighted sum of the window.
-/
module

public import proofs.«01_k».proof.Proof.Filter
public import proofs.«01_k».proof.Proof.Gen.ReferenceIdeal
public import Idealize.ShloMosaic.Lib.IdealHost
public import Idealize.ShloMosaic.Lib.ValueIdxCoords
public import Idealize.ShloMosaic.Lib.Pipeline.Value

@[expose] public section

set_option maxRecDepth 16384

noncomputable section

namespace Cert.Patch

open Idealize.ShloMosaic Idealize.ShloMosaic.ValueIdx
open Cert.ReferenceIdeal Cert.ReferenceIdeal.Gen Cert.Filter

/-! ## The weights -/

/-- The reference's taps. -/
def taps : FVec Ideal S11 .f32 :=
  Host.divf (fun i => FloatOps.ofBits .f32 (lit0 (S11.rowMajor i)))
    (broadcastInDim S11 ![] bcast_S_S11 (constant S_ .f32 0x461C4000#32))

/-- The reference's window: the products of two taps, repeated at every image, plane and place. -/
def weights : FVec Ideal S16x3x502x502x11x11 .f32 :=
  broadcastInDim S16x3x502x502x11x11 ![0, 1, 2, 3, 4, 5] bcast_S1x1x1x1x11x11_S16x3x502x502x11x11_0_1_2_3_4_5
    (broadcastInDim S1x1x1x1x11x11 ![4, 5] bcast_S11x11_S1x1x1x1x11x11_4_5
      (mulf (broadcastInDim S11x11 ![0, 1] bcast_S11x1_S11x11_0_1 (broadcastInDim S11x1 ![0] bcast_S11_S11x1_0 taps))
        (broadcastInDim S11x11 ![0, 1] bcast_S1x11_S11x11_0_1 (broadcastInDim S1x11 ![1] bcast_S11_S1x11_1 taps))))

/-- The literal ten thousand. -/
theorem w_den : Ideal.ofBits .f32 0x461C4000#32 = ((10000 : ℝ) : EReal) := by
  simp [Ideal.ofBits, Ideal.ieee, -EReal.coe_mul]; norm_num

/-- The literals of the taps, by position. -/
theorem w_tap : ∀ t : Fin 11, Ideal.ofBits .f32 (lit0 (S11.rowMajor (ix1 t))) = ((10000 * tap t : ℝ) : EReal) := by
  intro t
  have e : (S11.rowMajor (ix1 t)).val = t.val := Shape.rowMajor_val_one _
  have e' : S11.rowMajor (ix1 t) = (⟨t.val, t.isLt⟩ : Fin 11) := Fin.ext e
  rw [e']
  fin_cases t <;> simp [lit0, tap, Ideal.ofBits, Ideal.ieee, -EReal.coe_mul] <;> norm_num

/-- A tap of the reference. -/
theorem taps_apply (t : Fin 11) : taps (ix1 t) = (tap t : EReal) := by
  show Ideal.div (Ideal.ofBits .f32 (lit0 (S11.rowMajor (ix1 t)))) (Ideal.ofBits .f32 0x461C4000#32) = _
  rw [w_tap, w_den, Pixel.div_real _ (by norm_num)]
  congr 1
  field_simp

/-- A weight of the reference: the product of the row's tap and the column's. -/
theorem weights_apply (n : Fin 16) (p : Fin 3) (a b : Fin 502) (t s : Fin 11) :
    weights (ix6 n p a b t s) = ((tap t * tap s : ℝ) : EReal) := by
  rw [EReal.coe_mul, ← taps_apply, ← taps_apply]
  unfold weights
  rw [broadcastInDim_apply _ _ _ _ (ix6 0 0 0 0 t s : S1x1x1x1x11x11.Idx) (by intro a; fin_cases a <;> rfl),
    broadcastInDim_apply _ _ _ _ (ix2 t s : S11x11.Idx) (by intro a; fin_cases a <;> rfl)]
  refine congrArg₂ (fun x y : EReal => x * y) ?_ ?_
  · rw [broadcastInDim_apply _ _ _ _ (ix2 t 0 : S11x1.Idx) (by intro a; fin_cases a <;> rfl),
      broadcastInDim_apply _ _ _ _ (ix1 t : S11.Idx) (by intro a; fin_cases a <;> rfl)]
  · rw [broadcastInDim_apply _ _ _ _ (ix2 0 s : S1x11.Idx) (by intro a; fin_cases a <;> rfl),
      broadcastInDim_apply _ _ _ _ (ix1 s : S11.Idx) (by intro a; fin_cases a <;> rfl)]

/-! ## The patches -/

/-- The position of each tap of each place's window along an axis: the place plus the tap. -/
def pos : IVec S502x11 32 :=
  addi (broadcastInDim S502x11 ![0, 1] bcast_S502x1_S502x11_0_1 (broadcastInDim S502x1 ![0] bcast_S502_S502x1_0 (iotaInDim S502 32 0)))
    (broadcastInDim S502x11 ![0, 1] bcast_S1x11_S502x11_0_1 (broadcastInDim S1x11 ![1] bcast_S11_S1x11_1 (iotaInDim S11 32 0)))

/-- The row positions, at every pair of places and taps. -/
def rows : IVec S502x502x11x11x1 32 :=
  broadcastInDim S502x502x11x11x1 ![0, 1, 2, 3] bcast_S502x502x11x11_S502x502x11x11x1_0_1_2_3
    (broadcastInDim S502x502x11x11 ![0, 1, 2, 3] bcast_S502x1x11x1_S502x502x11x11_0_1_2_3
      (broadcastInDim S502x1x11x1 ![0, 2] bcast_S502x11_S502x1x11x1_0_2 pos))

/-- The column positions, at every pair of places and taps. -/
def cols : IVec S502x502x11x11x1 32 :=
  broadcastInDim S502x502x11x11x1 ![0, 1, 2, 3] bcast_S502x502x11x11_S502x502x11x11x1_0_1_2_3
    (broadcastInDim S502x502x11x11 ![0, 1, 2, 3] bcast_S1x502x1x11_S502x502x11x11_0_1_2_3
      (broadcastInDim S1x502x1x11 ![1, 3] bcast_S502x11_S1x502x1x11_1_3 pos))

/-- The start indices of the gather: row and column positions side by side. -/
def starts : IVec S502x502x11x11x2 32 :=
  concatenate S502x502x11x11x2 4 [⟨S502x502x11x11x1, rows⟩, ⟨S502x502x11x11x1, cols⟩]
    concatenates_S502x502x11x11x1_S502x502x11x11x1_S502x502x11x11x2_d4

/-- A position, as a word. -/
theorem pos_apply (a : Fin 502) (t : Fin 11) : pos (ix2 a t) = BitVec.ofNat 32 a.val + BitVec.ofNat 32 t.val := by
  refine congrArg₂ (fun x y : BitVec 32 => x + y) ?_ ?_
  · rw [broadcastInDim_apply _ _ _ _ (ix2 a 0 : S502x1.Idx) (by intro a; fin_cases a <;> rfl),
      broadcastInDim_apply _ _ _ _ (ix1 a : S502.Idx) (by intro a; fin_cases a <;> rfl)]
    rfl
  · rw [broadcastInDim_apply _ _ _ _ (ix2 0 t : S1x11.Idx) (by intro a; fin_cases a <;> rfl),
      broadcastInDim_apply _ _ _ _ (ix1 t : S11.Idx) (by intro a; fin_cases a <;> rfl)]
    rfl

/-- A position is a small number, so clamping it into the image changes nothing. -/
theorem pos_clamp (a : Fin 502) (t : Fin 11) : min (pos (ix2 a t)).toInt.toNat 511 = a.val + t.val := by
  have ha := a.isLt
  have ht := t.isLt
  rw [pos_apply, ← BitVec.ofNat_add]
  have h : (BitVec.ofNat 32 (a.val + t.val)).toNat = a.val + t.val := by
    rw [BitVec.toNat_ofNat]; omega
  rw [BitVec.toInt_eq_toNat_of_lt (by rw [h]; omega), h]
  omega

/-- The row position at a pair of places and taps. -/
theorem starts_row (a b : Fin 502) (t s : Fin 11) : starts (ix5 a b t s 0) = pos (ix2 a t) := by
  unfold starts
  rw [concatenate_pair_apply_left (t := S502x502x11x11x2) (s₁ := S502x502x11x11x1) (s₂ := S502x502x11x11x1) 4 rows cols _ _ rfl (ix5 a b t s 0 : S502x502x11x11x1.Idx) (by intro a; fin_cases a <;> rfl)]
  unfold rows
  rw [broadcastInDim_apply _ _ _ _ (ix4 a b t s : S502x502x11x11.Idx) (by intro a; fin_cases a <;> rfl),
    broadcastInDim_apply _ _ _ _ (ix4 a 0 t 0 : S502x1x11x1.Idx) (by intro a; fin_cases a <;> rfl),
    broadcastInDim_apply _ _ _ _ (ix2 a t : S502x11.Idx) (by intro a; fin_cases a <;> rfl)]

/-- The column position at a pair of places and taps. -/
theorem starts_col (a b : Fin 502) (t s : Fin 11) : starts (ix5 a b t s 1) = pos (ix2 b s) := by
  unfold starts
  rw [concatenate_pair_apply_right (t := S502x502x11x11x2) (s₁ := S502x502x11x11x1) (s₂ := S502x502x11x11x1) 4 rows cols _ _ rfl rfl (ix5 a b t s 0 : S502x502x11x11x1.Idx)
    (by intro a h; fin_cases a <;> first | rfl | exact absurd rfl h) rfl]
  unfold cols
  rw [broadcastInDim_apply _ _ _ _ (ix4 a b t s : S502x502x11x11.Idx) (by intro a; fin_cases a <;> rfl),
    broadcastInDim_apply _ _ _ _ (ix4 0 b 0 s : S1x502x1x11.Idx) (by intro a; fin_cases a <;> rfl),
    broadcastInDim_apply _ _ _ _ (ix2 b s : S502x11.Idx) (by intro a; fin_cases a <;> rfl)]

/-- The patches of a batch. -/
def patches (A : FVec Ideal S16x3x512x512 .f32) : FVec Ideal S16x3x502x502x11x11 .f32 :=
  Host.gather gather_S16x3x512x512_S502x502x11x11x2_S16x3x502x502x11x11_01_23_n_n_23_4_16311 A starts

/-- The gather's dimension numbers. -/
abbrev dims := gather_S16x3x512x512_S502x502x11x11x2_S16x3x502x502x11x11_01_23_n_n_23_4_16311

/-- On a kept axis of the operand the gather reads the result's own coordinate. -/
theorem kept_apply (j : S16x3x502x502x11x11.Idx) (k : Fin 4) (l : Fin 6) (hs : k ∉ dims.startIndexMap)
    (hk : k ∈ dims.sKept) (hl : ∀ h, dims.offsetDims[dims.sKept.idxOf k]'h = l) :
    (dims.operandIdx j starts k).val = (j l).val := by
  show dims.start j starts k + dims.batchCoord j k + dims.offCoord j k = _
  rw [GatherDims.batchCoord_eq_zero _ _ _ List.not_mem_nil]
  unfold GatherDims.start GatherDims.offCoord
  rw [dif_neg hs, dif_pos hk, hl]
  omega

/-- On a collapsed axis of the operand the gather reads the clamped start index. -/
theorem start_apply (j : S16x3x502x502x11x11.Idx) (k : Fin 4) (i : S502x502x11x11x2.Idx) (hs : k ∈ dims.startIndexMap)
    (hk : k ∉ dims.sKept) (hz : S16x3x512x512.size k - dims.sliceSizes k = 511)
    (hi : dims.siIdx j ⟨dims.startIndexMap.idxOf k, List.idxOf_lt_length_iff.2 hs⟩ = i) :
    (dims.operandIdx j starts k).val = min (starts i).toInt.toNat 511 := by
  show dims.start j starts k + dims.batchCoord j k + dims.offCoord j k = _
  rw [GatherDims.batchCoord_eq_zero _ _ _ List.not_mem_nil, GatherDims.offCoord_eq_zero _ _ _ hk]
  unfold GatherDims.start
  rw [dif_pos hs, hi, hz]
  rfl

/-- A patch's entry is the window's pixel. -/
theorem patches_apply (A : FVec Ideal S16x3x512x512 .f32) (n : Fin 16) (p : Fin 3) (a b : Fin 502) (t s : Fin 11) :
    patches A (ix6 n p a b t s) = win (img A n p) a b t s := by
  refine congrArg A (funext fun k => Fin.ext ?_)
  match k with
  | ⟨0, _⟩ => exact kept_apply _ 0 0 (by decide) (by decide) (fun _ => rfl)
  | ⟨1, _⟩ => exact kept_apply _ 1 1 (by decide) (by decide) (fun _ => rfl)
  | ⟨2, _⟩ =>
    refine (start_apply _ 2 (ix5 a b t s 0) (by decide) (by decide) rfl ?_).trans ?_
    · funext c; apply Fin.ext; fin_cases c <;> rfl
    · rw [starts_row, pos_clamp]
  | ⟨3, _⟩ =>
    refine (start_apply _ 3 (ix5 a b t s 1) (by decide) (by decide) rfl ?_).trans ?_
    · funext c; apply Fin.ext; fin_cases c <;> rfl
    · rw [starts_col, pos_clamp]

/-! ## The window sums -/

/-- The reference's window sums of a batch. -/
def conv (A : FVec Ideal S16x3x512x512 .f32) : FVec Ideal S16x3x502x502 .f32 :=
  Host.reduceAdd (mulf (patches A) weights) (constant S_ .f32 0x00000000#32)
    reducesTo_S16x3x502x502x11x11_S16x3x502x502_d4_5 h_S_

/-- A sum over the last two of six axes. -/
theorem reduce_last2 (x : S16x3x502x502x11x11.Idx → EReal) (n : Fin 16) (p : Fin 3) (a b : Fin 502) :
    ∑ i ∈ Finset.univ.filter (fun i => reducesTo_S16x3x502x502x11x11_S16x3x502x502_d4_5.drop i = ix4 n p a b), x i
      = ∑ t : Fin 11, ∑ s : Fin 11, x (ix6 n p a b t s) := by
  rw [← Finset.sum_product']
  symm
  refine Finset.sum_bij' (fun ts _ => ix6 n p a b ts.1 ts.2) (fun i _ => (i 4, i 5)) ?_ ?_ ?_ ?_ ?_
  · intro ts _
    refine Finset.mem_filter.2 ⟨Finset.mem_univ _, funext fun k => Fin.ext ?_⟩
    fin_cases k <;> rfl
  · intro i _; exact Finset.mem_product.2 ⟨Finset.mem_univ _, Finset.mem_univ _⟩
  · intro ts _; rfl
  · intro i hi
    have h := (Finset.mem_filter.1 hi).2
    have h0 : n = i 0 := Fin.ext (congrArg (fun f => (f 0).val) h).symm
    have h1 : p = i 1 := Fin.ext (congrArg (fun f => (f 1).val) h).symm
    have h2 : a = i 2 := Fin.ext (congrArg (fun f => (f 2).val) h).symm
    have h3 : b = i 3 := Fin.ext (congrArg (fun f => (f 3).val) h).symm
    subst h0 h1 h2 h3
    funext k
    fin_cases k <;> rfl
  · intro ts _; rfl

/-- A window sum of the reference is the weighted sum of the window. -/
theorem conv_apply (A : FVec Ideal S16x3x512x512 .f32) (n : Fin 16) (p : Fin 3) (a b : Fin 502) :
    conv A (ix4 n p a b) = Pixel.wsum tap (win (img A n p) a b) := by
  show Ideal.ofBits .f32 0x00000000#32 + ∑ i ∈ Finset.univ.filter (fun i =>
    reducesTo_S16x3x502x502x11x11_S16x3x502x502_d4_5.drop i = ix4 n p a b), patches A i * weights i = _
  rw [Ideal.ofBits_zero_f32, zero_add, reduce_last2 (fun i => patches A i * weights i)]
  unfold Pixel.wsum
  refine Finset.sum_congr rfl fun t _ => Finset.sum_congr rfl fun s _ => ?_
  rw [patches_apply, weights_apply]

end Cert.Patch

end
-- ==== Proof.Reference.lean ====
/-
  The reference's result as the same function of the images as the kernel's.
-/
module

public import proofs.«01_k».proof.Proof.Patch
public import proofs.«01_k».proof.Proof.Gen.ReferenceIdeal.Run

@[expose] public section

set_option maxRecDepth 16384

noncomputable section

namespace Cert.Reference

open Idealize.ShloMosaic Idealize.ShloMosaic.ValueIdx Idealize.ShloMosaic.TcCoe
open Idealize.SL Idealize.SL.Sem
open Cert.ReferenceIdeal Cert.ReferenceIdeal.Gen Cert.Filter Cert.Plane Cert.Patch

/-- A literal repeated at every place. -/
abbrev fill (w : BitVec 32) : FVec Ideal S16x3x502x502 .f32 :=
  broadcastInDim S16x3x502x502 ![] bcast_S_S16x3x502x502 (constant S_ .f32 w)

/-- The reference's pixel values from the five window sums. -/
def pixels (m1 m2 q1 q2 q12 : FVec Ideal S16x3x502x502 .f32) : FVec Ideal S16x3x502x502 .f32 :=
  mulf (Host.divf (addf (mulf (fill 0x40000000#32) (mulf m1 m2)) (fill 0x40D0147B#32))
      (addf (addf (mulf m1 m1) (mulf m2 m2)) (fill 0x40D0147B#32)))
    (Host.divf (addf (mulf (fill 0x40000000#32) (subf q12 (mulf m1 m2))) (fill 0x426A170A#32))
      (addf (addf (subf q1 (mulf m1 m1)) (subf q2 (mulf m2 m2))) (fill 0x426A170A#32)))

/-- The reference's pixel values of two batches. -/
def map (A B : FVec Ideal S16x3x512x512 .f32) : FVec Ideal S16x3x502x502 .f32 :=
  pixels (conv A) (conv B) (conv (mulf A A)) (conv (mulf B B)) (conv (mulf A B))

/-- The reference's result of two batches. -/
def out (A B : FVec Ideal S16x3x512x512 .f32) : FVec Ideal S16 .f32 :=
  subf (broadcastInDim S16 ![] bcast_S_S16 (constant S_ .f32 0x3F800000#32))
    (Host.divf (Host.reduceAdd (map A B) (constant S_ .f32 0x00000000#32) reducesTo_S16x3x502x502_S16_d1_2_3 h_S_)
      (broadcastInDim S16 ![] bcast_S_S16 (constant S_ .f32 0x493892C0#32)))

/-- The reference program's result is `out` of its two batches. -/
theorem res_eq (m : (ℓ : Loc nD τ sig) → Buf (Elt Ideal) ℓ) (c : Dev nD) : Value.res_main_v104 m c
    = out (m ((c.tc : Thread nD τ).loc main_arg0)) (m ((c.tc : Thread nD τ).loc main_arg1)) := by
  unfold Value.res_main_v104
  rfl

/-- The literal two. -/
theorem w_two : Ideal.ofBits .f32 0x40000000#32 = ((2 : ℝ) : EReal) := by
  simp [Ideal.ofBits, Ideal.ieee, -EReal.coe_mul]; norm_num

/-- The first stabilizing literal. -/
theorem w_c1 : Ideal.ofBits .f32 0x40D0147B#32 = (c1 : EReal) := by
  rw [show c1 = 13636731 / 2097152 by unfold c1; norm_num]
  simp [Ideal.ofBits, Ideal.ieee, -EReal.coe_mul]; norm_num

/-- The second stabilizing literal. -/
theorem w_c2 : Ideal.ofBits .f32 0x426A170A#32 = (c2 : EReal) := by
  simp [Ideal.ofBits, Ideal.ieee, c2, -EReal.coe_mul]; norm_num

/-- A pixel value of the reference at a place. -/
theorem map_apply (A B : FVec Ideal S16x3x512x512 .f32) (n : Fin 16) (p : Fin 3) (a b : Fin 502) :
    map A B (ix4 n p a b) = pixelR (img A n p) (img B n p) a b := by
  have e1 := conv_apply A n p a b
  have e2 := conv_apply B n p a b
  have e11 := conv_apply (mulf A A) n p a b
  have e22 := conv_apply (mulf B B) n p a b
  have e12 := conv_apply (mulf A B) n p a b
  unfold map
  generalize conv A = m1 at *
  generalize conv B = m2 at *
  generalize conv (mulf A A) = q1 at *
  generalize conv (mulf B B) = q2 at *
  generalize conv (mulf A B) = q12 at *
  show Ideal.div (Ideal.ofBits .f32 0x40000000#32 * (m1 (ix4 n p a b) * m2 (ix4 n p a b)) + Ideal.ofBits .f32 0x40D0147B#32)
      (m1 (ix4 n p a b) * m1 (ix4 n p a b) + m2 (ix4 n p a b) * m2 (ix4 n p a b) + Ideal.ofBits .f32 0x40D0147B#32)
    * Ideal.div (Ideal.ofBits .f32 0x40000000#32 * (q12 (ix4 n p a b) - m1 (ix4 n p a b) * m2 (ix4 n p a b)) + Ideal.ofBits .f32 0x426A170A#32)
      ((q1 (ix4 n p a b) - m1 (ix4 n p a b) * m1 (ix4 n p a b)) + (q2 (ix4 n p a b) - m2 (ix4 n p a b) * m2 (ix4 n p a b))
        + Ideal.ofBits .f32 0x426A170A#32) = _
  rw [e1, e2, e11, e22, e12, w_two, w_c1, w_c2]
  rfl

/-- A sum over the last three of four axes. -/
theorem reduce_last3 (x : S16x3x502x502.Idx → EReal) (n : Fin 16) :
    ∑ i ∈ Finset.univ.filter (fun i => reducesTo_S16x3x502x502_S16_d1_2_3.drop i = ix1 n), x i
      = ∑ p : Fin 3, ∑ a : Fin 502, ∑ b : Fin 502, x (ix4 n p a b) := by
  simp only [← Finset.sum_product']
  symm
  refine Finset.sum_bij' (fun q _ => ix4 n q.1 q.2.1 q.2.2) (fun i _ => (i 1, i 2, i 3)) ?_ ?_ ?_ ?_ ?_
  · intro q _
    refine Finset.mem_filter.2 ⟨Finset.mem_univ _, funext fun k => Fin.ext ?_⟩
    fin_cases k
    rfl
  · intro i _; simp
  · intro q _; rfl
  · intro i hi
    have h := (Finset.mem_filter.1 hi).2
    have h0 : n = i 0 := Fin.ext (congrArg (fun f => (f 0).val) h).symm
    subst h0
    funext k
    fin_cases k <;> rfl
  · intro q _; rfl

/-- The reference's result is the same function of the batches as the kernel's. -/
theorem out_eq (A B : FVec Ideal S16x3x512x512 .f32) : out A B = res A B := by
  funext i
  obtain ⟨n, rfl⟩ : ∃ n : Fin 16, i = ix1 n := ⟨i 0, by funext k; fin_cases k; rfl⟩
  refine congrArg₂ (fun x y : EReal => x - y) rfl (congrArg₂ Ideal.div ?_ rfl)
  show Ideal.ofBits .f32 0x00000000#32 + ∑ j ∈ Finset.univ.filter (fun j =>
    reducesTo_S16x3x502x502_S16_d1_2_3.drop j = ix1 n), map A B j = _
  rw [Ideal.ofBits_zero_f32, zero_add, reduce_last3]
  simp only [map_apply]
  rfl

end Cert.Reference

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.KernelRun
public import proofs.«01_k».proof.Proof.Reference
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- From memories that agree on the two batches of images, the kernel and the reference end with the same result: one
    less the mean of the pixel values of each image. Both leave the batches as they were. -/
theorem agree : Cert.algebraic_KernelIdeal_ReferenceIdeal := fun m ρ m' ρ' _ hag =>
  ⟨fun c => Cert.Filter.res (m ((c.tc : Thread _ _).loc Cert.KernelIdeal.main_arg0)) (m ((c.tc : Thread _ _).loc Cert.KernelIdeal.main_arg1)),
    Cert.KernelRun.run m ρ,
    (θ_run Cert.ReferenceIdeal.defs _ _).mono
      (fun _ h c => ⟨(h c).1.trans ((Cert.Reference.res_eq m' c).trans
        ((Cert.Reference.out_eq _ _).trans (congrArg₂ Cert.Filter.res (hag c).1 (hag c).2))), (h c).2⟩)
      (Cert.ReferenceIdeal.Value.run m' ρ')⟩

/-- Everything the certificate claims: the three programs run to the end and leave their arguments, the named constants
    are within their words, and the kernel's result is the reference's. -/
theorem claim : Cert.Claim := ⟨Cert.Kernel.Gen.facts, Cert.KernelIdeal.Gen.facts, Cert.ReferenceIdeal.Gen.facts, ⟨fun m ρ _ => Cert.Kernel.Gen.frame m ρ, fun m ρ _ => Cert.KernelIdeal.Gen.frame m ρ,
  fun m ρ _ => (θ_run Cert.ReferenceIdeal.defs _ _).mono
    (fun r h => ⟨fun c => (h c).2, sem_eq_zero_of_no_sems (by decide) r.2⟩)
    (Cert.ReferenceIdeal.Value.run m ρ),
  ⟨IdealRules.named_const.statement Cert.KernelIdeal.κ "k_lum" .bf16 _ _ rfl,
   IdealRules.named_const.statement Cert.KernelIdeal.κ "k_cs" .bf16 _ _ rfl⟩,
  agree⟩⟩

end Cert.Proof

end
